-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_memory [hPre_finite_memory : Cert.Pre_finite_memory.Facts] (m : (ℓ : Loc Cert.MergeIdeal.nD Cert.MergeIdeal.τ Cert.MergeIdeal.sig) → Buf (Elt Ideal) ℓ) : Prop :=
  ∀ c : Dev Cert.MergeIdeal.nD,
    (Cert.Pre_finite_memory.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).1 = (fun _ => 1#1)
    ∧ (Cert.Pre_finite_memory.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_memory [hPre_finite_memory : Cert.Pre_finite_memory.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_memory.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).1 = (fun _ => 1#1)
    ∧ (Cert.Pre_finite_memory.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2 = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_finite_memory [hMergeIdeal : Cert.MergeIdeal.Facts] [hPre_finite_memory : Cert.Pre_finite_memory.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_memory m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_finite_memory [hMergeRefIdeal : Cert.MergeRefIdeal.Facts] [hPre_finite_memory : Cert.Pre_finite_memory.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_memory m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def preserves_Attn_AttnIdeal : Prop :=
  True

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v10)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v83) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)) (v6 : (c : Dev Cert.ProjIdeal.nD) → Buf (Elt Ideal) ((c.tc : Thread Cert.ProjIdeal.nD Cert.ProjIdeal.τ).loc Cert.ProjIdeal.main_v0_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_v0_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v32) = v0 c
          ∧ r.2.mem ((c.tc : Thread Cert.ProjRefIdeal.nD Cert.ProjRefIdeal.τ).loc Cert.ProjRefIdeal.main_v33) = v1 c
          ∧ r.2.mem ((c.tc : Thread Cert.ProjRefIdeal.nD Cert.ProjRefIdeal.τ).loc Cert.ProjRefIdeal.main_v34) = v2 c
          ∧ r.2.mem ((c.tc : Thread Cert.ProjRefIdeal.nD Cert.ProjRefIdeal.τ).loc Cert.ProjRefIdeal.main_v17) = v3 c
          ∧ r.2.mem ((c.tc : Thread Cert.ProjRefIdeal.nD Cert.ProjRefIdeal.τ).loc Cert.ProjRefIdeal.main_v18) = v4 c
          ∧ r.2.mem ((c.tc : Thread Cert.ProjRefIdeal.nD Cert.ProjRefIdeal.τ).loc Cert.ProjRefIdeal.main_v37) = v5 c
          ∧ r.2.mem ((c.tc : Thread Cert.ProjRefIdeal.nD Cert.ProjRefIdeal.τ).loc Cert.ProjRefIdeal.main_v38) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal_pre_finite_memory [hMergeIdeal : Cert.MergeIdeal.Facts] [hMergeRefIdeal : Cert.MergeRefIdeal.Facts] [hPre_finite_memory : Cert.Pre_finite_memory.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_memory m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v57) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v0_0)) (v1 : (c : Dev Cert.MemoryIdeal.nD) → Buf (Elt Ideal) ((c.tc : Thread Cert.MemoryIdeal.nD Cert.MemoryIdeal.τ).loc Cert.MemoryIdeal.main_v0_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0_0) = v0 c
          ∧ r.2.mem ((c.tc : Thread Cert.MemoryIdeal.nD Cert.MemoryIdeal.τ).loc Cert.MemoryIdeal.main_v0_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v17) = v0 c
          ∧ r.2.mem ((c.tc : Thread Cert.MemoryRefIdeal.nD Cert.MemoryRefIdeal.τ).loc Cert.MemoryRefIdeal.main_v18) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMemory : Cert.Memory.Facts) (hMemoryIdeal : Cert.MemoryIdeal.Facts) (hMemoryRefIdeal : Cert.MemoryRefIdeal.Facts) (hPre_finite_attention : Cert.Pre_finite_attention.Facts) (hPre_finite_memory : Cert.Pre_finite_memory.Facts),
    quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeIdeal_pre_finite_memory (hMergeIdeal := hMergeIdeal) (hPre_finite_memory := hPre_finite_memory)
    ∧ quiescent_MergeRefIdeal (hMergeRefIdeal := hMergeRefIdeal)
    ∧ quiescent_MergeRefIdeal_pre_finite_memory (hMergeRefIdeal := hMergeRefIdeal) (hPre_finite_memory := hPre_finite_memory)
    ∧ quiescent_Memory (hMemory := hMemory)
    ∧ quiescent_MemoryIdeal (hMemoryIdeal := hMemoryIdeal)
    ∧ quiescent_MemoryRefIdeal (hMemoryRefIdeal := hMemoryRefIdeal)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal_pre_finite_memory (hMergeIdeal := hMergeIdeal) (hMergeRefIdeal := hMergeRefIdeal) (hPre_finite_memory := hPre_finite_memory)
    ∧ preserves_Memory_MemoryIdeal
    ∧ algebraic_MemoryIdeal_MemoryRefIdeal (hMemoryIdeal := hMemoryIdeal) (hMemoryRefIdeal := hMemoryRefIdeal)
-- ==== Pre_finite_attention.lean ====
abbrev S8x2048x1024 : Shape := ⟨3, ![8, 2048, 1024]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  bcast_S_S1x64 : S_.BroadcastsInDim S1x64 (![] : Fin 0 → Fin S1x64.rank)

variable [Facts]

def fn_part1 {F : FTy → Type} [FloatOps F] (main_arg6 : FVec F S1x64 .f32) (main_v3 : IVec S8x2048x1024 1) (main_v7 : IVec S8x2048x1024 1) (main_v11 : IVec S8x2048x1024 1) (main_v14 : IVec S1x64 1) (main_v17 : IVec S1x64 1) (main_v18 : FVec F S1x64 .f32) : IVec S8x2048x1024 1 × IVec S8x2048x1024 1 × IVec S8x2048x1024 1 × IVec S1x64 1 × IVec S1x64 1 × IVec S1x64 1 × IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := Host.absf main_arg6
  let main_cst_5 : FVec F S_ .f32 := constant S_ .f32 0x7F800000#32
  let main_v22 : FVec F S1x64 .f32 := broadcastInDim S1x64 ![] bcast_S_S1x64 main_cst_5
  let main_v23 : IVec S1x64 1 := cmpf .olt main_v21 main_v22
  (main_v3, main_v7, main_v11, main_v14, main_v17, main_v20, main_v23)

def fn {F : FTy → Type} [FloatOps F] (main_arg0 : FVec F S8x2048x1024 .bf16) (main_arg1 : FVec F S8x2048x1024 .bf16) (main_arg2 : FVec F S8x2048x1024 .bf16) (main_arg3 : FVec F S1x64 .f32) (main_arg4 : FVec F S1x64 .f32) (main_arg5 : FVec F S1x64 .f32) (main_arg6 : FVec F S1x64 .f32) (main_arg7 : FVec F S1x128 .f32) : IVec S8x2048x1024 1 × IVec S8x2048x1024 1 × IVec S8x2048x1024 1 × IVec S1x64 1 × IVec S1x64 1 × IVec S1x64 1 × IVec S1x64 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_v4 : FVec F S8x2048x1024 .f32 := (extf .f32 · bitsLt_bf16_f32) main_arg1
  let main_v5 : FVec F S8x2048x1024 .f32 := Host.absf main_v4
  let main_cst_0 : FVec F S_ .f32 := constant S_ .f32 0x7F800000#32
  let main_v6 : FVec F S8x2048x1024 .f32 := broadcastInDim S8x2048x1024 ![] bcast_S_S8x2048x1024 main_cst_0
  let main_v7 : IVec S8x2048x1024 1 := cmpf .olt main_v5 main_v6
  let main_v8 : FVec F S8x2048x1024 .f32 := (extf .f32 · bitsLt_bf16_f32) main_arg2
  let main_v9 : FVec F S8x2048x1024 .f32 := Host.absf main_v8
  let main_cst_1 : FVec F S_ .f32 := constant S_ .f32 0x7F800000#32
  let main_v10 : FVec F S8x2048x1024 .f32 := broadcastInDim S8x2048x1024 ![] bcast_S_S8x2048x1024 main_cst_1
  let main_v11 : IVec S8x2048x1024 1 := cmpf .olt main_v9 main_v10
  let main_v12 : FVec F S1x64 .f32 := Host.absf main_arg3
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_v15 : FVec F S1x64 .f32 := Host.absf main_arg4
  let main_cst_3 : FVec F S_ .f32 := constant S_ .f32 0x7F800000#32
  let main_v16 : FVec F S1x64 .f32 := broadcastInDim S1x64 ![] bcast_S_S1x64 main_cst_3
  let main_v17 : IVec S1x64 1 := cmpf .olt main_v15 main_v16
  let main_v18 : FVec F S1x64 .f32 := Host.absf main_arg5
  fn_part1 (F := F) main_arg6 main_v3 main_v7 main_v11 main_v14 main_v17 main_v18
-- ==== Pre_finite_memory.lean ====
abbrev S8x2048x1024 : Shape := ⟨3, ![8, 2048, 1024]⟩
abbrev S8x256x1024 : Shape := ⟨3, ![8, 256, 1024]⟩
abbrev S8x2048x3072 : Shape := ⟨3, ![8, 2048, 3072]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  bcast_S_S8x256x1024 : S_.BroadcastsInDim S8x256x1024 (![] : Fin 0 → Fin S8x256x1024.rank)

variable [Facts]

def fn {F : FTy → Type} [FloatOps F] (main_arg0 : FVec F S8x2048x1024 .f32) (main_arg1 : FVec F S8x2048x1024 .bf16) (main_arg2 : FVec F S8x2048x1024 .bf16) (main_arg3 : FVec F S8x2048x1024 .bf16) (main_arg4 : FVec F S8x256x1024 .bf16) (main_arg5 : FVec F S8x256x1024 .bf16) (main_arg6 : FVec F S8x2048x3072 .bf16) (main_arg7 : FVec F S1024x1024 .bf16) (main_arg8 : FVec F S1024x1024 .bf16) (main_arg9 : FVec F S1024x1024 .bf16) (main_arg10 : FVec F S1024x1024 .bf16) (main_arg11 : FVec F S1x1024 .f32) : IVec S8x2048x1024 1 × IVec S8x256x1024 1 :=
  let main_v0 : FVec F S8x2048x1024 .f32 := (extf .f32 · bitsLt_bf16_f32) main_arg3
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_v4 : FVec F S8x256x1024 .f32 := (extf .f32 · bitsLt_bf16_f32) main_arg4
  let main_v5 : FVec F S8x256x1024 .f32 := Host.absf main_v4
  let main_cst_0 : FVec F S_ .f32 := constant S_ .f32 0x7F800000#32
  let main_v6 : FVec F S8x256x1024 .f32 := broadcastInDim S8x256x1024 ![] bcast_S_S8x256x1024 main_cst_0
  let main_v7 : IVec S8x256x1024 1 := cmpf .olt main_v5 main_v6
  (main_v3, main_v7)
-- ==== Attn.lean ====
abbrev S8x2048x1024 : Shape := ⟨3, ![8, 2048, 1024]⟩
abbrev S1x64 : Shape := ⟨2, ![1, 64]⟩
abbrev S1x128 : Shape := ⟨2, ![1, 128]⟩
abbrev S8 : Shape := ⟨1, ![8]⟩
abbrev S_ : Shape := ⟨0, ![]⟩
abbrev S1x512x128 : Shape := ⟨3, ![1, 512, 128]⟩
abbrev S1x2048x128 : Shape := ⟨3, ![1, 2048, 128]⟩
abbrev S1 : Shape := ⟨1, ![1]⟩
abbrev S512x128 : Shape := ⟨2, ![512, 128]⟩
abbrev S1024x128 : Shape := ⟨2, ![1024, 128]⟩
abbrev S1x512 : Shape := ⟨2, ![1, 512]⟩
abbrev S1024x1 : Shape := ⟨2, ![1024, 1]⟩
abbrev S1024x512 : Shape := ⟨2, ![1024, 512]⟩
abbrev S1024 : Shape := ⟨1, ![1024]⟩
abbrev S512x512 : Shape := ⟨2, ![512, 512]⟩
abbrev S1x1 : Shape := ⟨2, ![1, 1]⟩
abbrev S512 : Shape := ⟨1, ![512]⟩
abbrev S512x1 : Shape := ⟨2, ![512, 1]⟩

abbrev nBuf : Space → Nat
  | .hbm => 23
  | .vmem => 13
  | .smem => 1
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8x2048x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x128, .bf16⟩
  | .local _ .vmem, ⟨12, _⟩ => ⟨S1x512x128, .bf16⟩
  | .local _ .smem, ⟨0, _⟩ => ⟨S8, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![8, 8, 4], ![false, false, false]⟩

def k0_off1 (i : grid0.Coords) : Fin 1 → Nat :=
  let arg1 : BitVec 32 := BitVec.ofNat 32 (i 1).val
  let v0 : Index := Scalar.indexCast arg1
  ![v0.toNat]
@[reducible] def k0_t1_loop (i : grid0.Coords) : Scf.Loop 32 :=
  let c0_i32 : BitVec 32 := 0#32
  let arg2 : BitVec 32 := BitVec.ofNat 32 (i 2).val
  let v21 : BitVec 32 := Scalar.subi arg2 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_6 : BitVec 32 := 1#32
  ⟨c0_i32, v25, c1_i32_6⟩
def k0_mult1 (i : grid0.Coords) (k0_t1 : Fin (k0_t1_loop i).trips) : BitVec 32 :=
  let c0_i32 : BitVec 32 := 0#32
  let c1_i32_6 : BitVec 32 := 1#32
  let arg13 : BitVec 32 := Scf.iv c0_i32 c1_i32_6 k0_t1
  let c512_i32_38 : BitVec 32 := 512#32
  let v111 : BitVec 32 := Scalar.muli arg13 c512_i32_38
  v111
def k0_off2 (i : grid0.Coords) (k0_t1 : Fin (k0_t1_loop i).trips) : Fin 3 → Nat :=
  let c0_39 : Index := 0#32
  let c0_i32 : BitVec 32 := 0#32
  let c1_i32_6 : BitVec 32 := 1#32
  let arg13 : BitVec 32 := Scf.iv c0_i32 c1_i32_6 k0_t1
  let c512_i32_38 : BitVec 32 := 512#32
  let v111 : BitVec 32 := Scalar.muli arg13 c512_i32_38
  let v112 : BitVec 32 := v111
  let v113 : Index := Scalar.indexCast v112
  let c0_40 : Index := 0#32
  ![0, v113.toNat, 0]
@[reducible] def k0_t2_loop (i : grid0.Coords) : Scf.Loop 32 :=
  let c0_i32 : BitVec 32 := 0#32
  let arg2 : BitVec 32 := BitVec.ofNat 32 (i 2).val
  let v21 : BitVec 32 := Scalar.subi arg2 c0_i32
  let c1_i32 : BitVec 32 := 1#32
  let v23 : BitVec 32 := Scalar.divsi v21 c1_i32
  let v24 : BitVec 32 := Scalar.muli v23 c1_i32
  let v25 : BitVec 32 := Scalar.addi c0_i32 v24
  let v22 : BitVec 32 := Scalar.addi c0_i32 v21
  let c1_i32_7 : BitVec 32 := 1#32
  ⟨v25, v22, c1_i32_7⟩
def k0_mult2 (i : grid0.Coords) (k0_t2 : Fin (k0_t2_loop i).trips) : BitVec 32 :=
  let c0_i32 : BitVec 32 := 0#32
  let arg2 : BitVec 32 := BitVec.ofNat 32 (i 2).val
  let v21 : BitVec 32 := Scalar.subi arg2 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_7 : BitVec 32 := 1#32
  let arg13 : BitVec 32 := Scf.iv v25 c1_i32_7 k0_t2
  let c512_i32_38 : BitVec 32 := 512#32
  let v111 : BitVec 32 := Scalar.muli arg13 c512_i32_38
  v111
def k0_off3 (i : grid0.Coords) (k0_t2 : Fin (k0_t2_loop i).trips) : Fin 3 → Nat :=
  let c0_39 : Index := 0#32
  let c0_i32 : BitVec 32 := 0#32
  let arg2 : BitVec 32 := BitVec.ofNat 32 (i 2).val
  let v21 : BitVec 32 := Scalar.subi arg2 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_7 : BitVec 32 := 1#32
  let arg13 : BitVec 32 := Scf.iv v25 c1_i32_7 k0_t2
  let c512_i32_38 : BitVec 32 := 512#32
  let v111 : BitVec 32 := Scalar.muli arg13 c512_i32_38
  let v112 : BitVec 32 := v111
  let v113 : Index := Scalar.indexCast v112
  let c0_40 : Index := 0#32
  ![0, v113.toNat, 0]
def k0_mult3 (i : grid0.Coords) : BitVec 32 :=
  let arg2 : BitVec 32 := BitVec.ofNat 32 (i 2).val
  let c512_i32 : BitVec 32 := 512#32
  let v28 : BitVec 32 := Scalar.muli arg2 c512_i32
  v28
def k0_off4 (i : grid0.Coords) : Fin 3 → Nat :=
  let c0_8 : Index := 0#32
  let arg2 : BitVec 32 := BitVec.ofNat 32 (i 2).val
  let c512_i32 : BitVec 32 := 512#32
  let v28 : BitVec 32 := Scalar.muli arg2 c512_i32
  let v29 : BitVec 32 := v28
  let v30 : Index := Scalar.indexCast v29
  let c0_9 : Index := 0#32
  ![0, v30.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnRefIdeal.lean ====
abbrev S8x2048x1024 : Shape := ⟨3, ![8, 2048, 1024]⟩
abbrev S1x64 : Shape := ⟨2, ![1, 64]⟩
abbrev S1x128 : Shape := ⟨2, ![1, 128]⟩
abbrev S_ : Shape := ⟨0, ![]⟩
abbrev S8x2048x8x2x64 : Shape := ⟨5, ![8, 2048, 8, 2, 64]⟩
abbrev S8x8x2x2048x64 : Shape := ⟨5, ![8, 8, 2, 2048, 64]⟩
abbrev S8x2048x8x128 : Shape := ⟨4, ![8, 2048, 8, 128]⟩
abbrev S8x8x2048x128 : Shape := ⟨4, ![8, 8, 2048, 128]⟩
abbrev S8 : Shape := ⟨1, ![8]⟩
abbrev S8x1x1x1 : Shape := ⟨4, ![8, 1, 1, 1]⟩
abbrev S8x8x2x2048x2048 : Shape := ⟨5, ![8, 8, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x1x2048x2048 : Shape := ⟨4, ![8, 1, 2048, 2048]⟩
abbrev S1x8x1x2048x2048 : Shape := ⟨5, ![1, 8, 1, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩
abbrev S1x1x1x128 : Shape := ⟨4, ![1, 1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S1x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x2048x1024, .f32⟩
  | .hbm, ⟨20, _⟩ => ⟨S8x2048x8x2x64, .f32⟩
  | .hbm, ⟨21, _⟩ => ⟨S8x8x2x2048x64, .f32⟩
  | .hbm, ⟨22, _⟩ => ⟨S8x2048x1024, .f32⟩
  | .hbm, ⟨23, _⟩ => ⟨S8x2048x8x2x64, .f32⟩
  | .hbm, ⟨24, _⟩ => ⟨S8x8x2x2048x64, .f32⟩
  | .hbm, ⟨25, _⟩ => ⟨S8x2048x1024, .f32⟩
  | .hbm, ⟨26, _⟩ => ⟨S8x2048x8x128, .f32⟩
  | .hbm, ⟨27, _⟩ => ⟨S8x8x2048x128, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S8x1x1x1, .f32⟩
  | .hbm, ⟨43, _⟩ => ⟨S8x8x2x2048x2048, .f32⟩
  | .hbm, ⟨44, _⟩ => ⟨S2048, .i32⟩
  | .hbm, ⟨45, _⟩ => ⟨S2048x1, .i32⟩
  | .hbm, ⟨46, _⟩ => ⟨S2048, .i32⟩
  | .hbm, ⟨47, _⟩ => ⟨S1x2048, .i32⟩
  | .hbm, ⟨48, _⟩ => ⟨S2048x2048, .i32⟩
  | .hbm, ⟨49, _⟩ => ⟨S2048x2048, .i32⟩
  | .hbm, ⟨50, _⟩ => ⟨S2048x2048, .i32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .i1⟩
  | .hbm, ⟨55, _⟩ => ⟨S1x1x2048x2048, .f32⟩
  | .hbm, ⟨56, _⟩ => ⟨S8x1x2048x2048, .f32⟩
  | .hbm, ⟨57, _⟩ => ⟨S8x1x2048x2048, .f32⟩
  | .hbm, ⟨58, _⟩ => ⟨S8x1x2048x2048, .f32⟩
  | .hbm, ⟨59, _⟩ => ⟨S1x8x1x2048x2048, .f32⟩
  | .hbm, ⟨60, _⟩ => ⟨S8x8x2x2048x2048, .f32⟩
  | .hbm, ⟨61, _⟩ => ⟨S8x8x2x2048x2048, .f32⟩
  | .hbm, ⟨62, _⟩ => ⟨S_, .f32⟩
  | .hbm, ⟨63, _⟩ => ⟨S_, .f32⟩
  | .hbm, ⟨64, _⟩ => ⟨S8x8x2x2048x2048, .i1⟩
  | .hbm, ⟨65, _⟩ => ⟨S8x8x2x2048x2048, .f32⟩
  | .hbm, ⟨66, _⟩ => ⟨S8x8x2x2048x2048, .f32⟩
  | .hbm, ⟨67, _⟩ => ⟨S_, .f32⟩
  | .hbm, ⟨68, _⟩ => ⟨S8x8x2x2048, .f32⟩
  | .hbm, ⟨69, _⟩ => ⟨S_, .f32⟩
  | .hbm, ⟨70, _⟩ => ⟨S8x8x2x2048, .f32⟩
  | .hbm, ⟨71, _⟩ => ⟨S8x8x2x2048, .f32⟩
  | .hbm, ⟨72, _⟩ => ⟨S8x8x2x2048x1, .f32⟩
  | .hbm, ⟨73, _⟩ => ⟨S8x8x2x2048x2048, .f32⟩
  | .hbm, ⟨74, _⟩ => ⟨S8x8x2x2048x2048, .f32⟩
  | .hbm, ⟨75, _⟩ => ⟨S8x8x2x2048x2048, .f32⟩
  | .hbm, ⟨76, _⟩ => ⟨S_, .f32⟩
  | .hbm, ⟨77, _⟩ => ⟨S8x8x2x2048, .f32⟩
  | .hbm, ⟨78, _⟩ => ⟨S8x8x2x2048x1, .f32⟩
  | .hbm, ⟨79, _⟩ => ⟨S8x8x2x2048x2048, .f32⟩
  | .hbm, ⟨80, _⟩ => ⟨S8x8x2x2048x2048, .f32⟩
  | .hbm, ⟨81, _⟩ => ⟨S8x8x1x2048x2048, .f32⟩
  | .hbm, ⟨82, _⟩ => ⟨S8x8x2048x2048, .f32⟩
  | .hbm, ⟨83, _⟩ => ⟨S8x8x1x2048x2048, .f32⟩
  | .hbm, ⟨84, _⟩ => ⟨S8x8x2048x2048, .f32⟩
  | .hbm, ⟨85, _⟩ => ⟨S8x8x2048x2048, .f32⟩
  | .hbm, ⟨86, _⟩ => ⟨S8x8x2048x2048, .f32⟩
  | .hbm, ⟨87, _⟩ => ⟨S8x8x2048x2048, .f32⟩
  | .hbm, ⟨88, _⟩ => ⟨S8x8x2048x128, .f32⟩
  | .hbm, ⟨89, _⟩ => ⟨S8x8x2048x128, .f32⟩
  | .hbm, ⟨90, _⟩ => ⟨S_, .f32⟩
  | .hbm, ⟨91, _⟩ => ⟨S8x8x2048, .f32⟩
  | .hbm, ⟨92, _⟩ => ⟨S8x8x2048x1, .f32⟩
  | .hbm, ⟨93, _⟩ => ⟨S_, .f32⟩
  | .hbm, ⟨94, _⟩ => ⟨S8x8x2048x1, .f32⟩
  | .hbm, ⟨95, _⟩ => ⟨S8x8x2048x1, .f32⟩
  | .hbm, ⟨96, _⟩ => ⟨S_, .f32⟩
  | .hbm, ⟨97, _⟩ => ⟨S8x8x2048x1, .f32⟩
  | .hbm, ⟨98, _⟩ => ⟨S8x8x2048x1, .f32⟩
  | .hbm, ⟨99, _⟩ => ⟨S8x8x2048x1, .f32⟩
  | .hbm, ⟨100, _⟩ => ⟨S8x8x2048x128, .f32⟩
  | .hbm, ⟨101, _⟩ => ⟨S8x8x2048x128, .f32⟩
  | .hbm, ⟨102, _⟩ => ⟨S1x1x1x128, .f32⟩
  | .hbm, ⟨103, _⟩ => ⟨S8x8x2048x128, .f32⟩
  | .hbm, ⟨104, _⟩ => ⟨S8x8x2048x128, .f32⟩
  | .hbm, ⟨105, _⟩ => ⟨S_, .f32⟩
  | .hbm, ⟨106, _⟩ => ⟨S8x8x2048x128, .f32⟩
  | .hbm, ⟨107, _⟩ => ⟨S8x8x2048x128, .f32⟩
  | .hbm, ⟨108, _⟩ => ⟨S8x2048x8x128, .f32⟩
  | .hbm, ⟨109, _⟩ => ⟨S8x2048x1024, .f32⟩
  | .hbm, ⟨110, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proj.lean ====
abbrev S16384x1024 : Shape := ⟨2, ![16384, 1024]⟩
abbrev S1x1024 : Shape := ⟨2, ![1, 1024]⟩
abbrev S1024x6144 : Shape := ⟨2, ![1024, 6144]⟩
abbrev S1024x3072 : Shape := ⟨2, ![1024, 3072]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6144, .bf16⟩
  | .hbm, ⟨3, _⟩ => ⟨S1024x3072, .bf16⟩
  | .hbm, ⟨4, _⟩ => ⟨S1x3072, .f32⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S16384x1024, .bf16⟩
  | .hbm, ⟨11, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1024x3072, .bf16⟩
  | .local _ .vmem, ⟨5, _⟩ => ⟨S1x3072, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x3072, .bf16⟩
  | .local _ .vmem, ⟨19, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S16384x1024 : Shape := ⟨2, ![16384, 1024]⟩
abbrev S1x1024 : Shape := ⟨2, ![1, 1024]⟩
abbrev S1024x6144 : Shape := ⟨2, ![1024, 6144]⟩
abbrev S1024x3072 : Shape := ⟨2, ![1024, 3072]⟩
abbrev S1x3072 : Shape := ⟨2, ![1, 3072]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S16384x3072 : Shape := ⟨2, ![16384, 3072]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6144, .bf16⟩
  | .hbm, ⟨3, _⟩ => ⟨S1024x3072, .bf16⟩
  | .hbm, ⟨4, _⟩ => ⟨S1x3072, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x6144, .f32⟩
  | .hbm, ⟨21, _⟩ => ⟨S16384x6144, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x3072, .f32⟩
  | .hbm, ⟨29, _⟩ => ⟨S16384x3072, .f32⟩
  | .hbm, ⟨30, _⟩ => ⟨S16384x3072, .f32⟩
  | .hbm, ⟨31, _⟩ => ⟨S16384x3072, .f32⟩
  | .hbm, ⟨32, _⟩ => ⟨S16384x3072, .f32⟩
  | .hbm, ⟨33, _⟩ => ⟨S16384x3072, .f32⟩
  | .hbm, ⟨34, _⟩ => ⟨S_, .f32⟩
  | .hbm, ⟨35, _⟩ => ⟨S16384x3072, .f32⟩
  | .hbm, ⟨36, _⟩ => ⟨S16384x3072, .f32⟩
  | .hbm, ⟨37, _⟩ => ⟨S_, .f32⟩
  | .hbm, ⟨38, _⟩ => ⟨S16384x3072, .f32⟩
  | .hbm, ⟨39, _⟩ => ⟨S16384x3072, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .bf16⟩
  | .hbm, ⟨44, _⟩ => ⟨S16384x1024, .bf16⟩
  | .hbm, ⟨45, _⟩ => ⟨S16384x1024, .bf16⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Merge.lean ====
abbrev S8x2048x1024 : Shape := ⟨3, ![8, 2048, 1024]⟩
abbrev S8x256x1024 : Shape := ⟨3, ![8, 256, 1024]⟩
abbrev S8x2048x3072 : Shape := ⟨3, ![8, 2048, 3072]⟩
abbrev S1024x1024 : Shape := ⟨2, ![1024, 1024]⟩
abbrev S1x1024 : Shape := ⟨2, ![1, 1024]⟩
abbrev S1x512x1024 : Shape := ⟨3, ![1, 512, 1024]⟩
abbrev S1x256x1024 : Shape := ⟨3, ![1, 256, 1024]⟩
abbrev S1x512x3072 : Shape := ⟨3, ![1, 512, 3072]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 13
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x256x1024, .bf16⟩
  | .hbm, ⟨5, _⟩ => ⟨S8x256x1024, .bf16⟩
  | .hbm, ⟨6, _⟩ => ⟨S8x2048x3072, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x512x3072, .bf16⟩
  | .local _ .vmem, ⟨13, _⟩ => ⟨S1x512x3072, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8x2048x1024 : Shape := ⟨3, ![8, 2048, 1024]⟩
abbrev S8x256x1024 : Shape := ⟨3, ![8, 256, 1024]⟩
abbrev S8x2048x3072 : Shape := ⟨3, ![8, 2048, 3072]⟩
abbrev S1024x1024 : Shape := ⟨2, ![1024, 1024]⟩
abbrev S1x1024 : Shape := ⟨2, ![1, 1024]⟩
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048x3x1024 : Shape := ⟨4, ![8, 2048, 3, 1024]⟩
abbrev S8x2048x1x1024 : Shape := ⟨4, ![8, 2048, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x256x1024, .bf16⟩
  | .hbm, ⟨5, _⟩ => ⟨S8x256x1024, .bf16⟩
  | .hbm, ⟨6, _⟩ => ⟨S8x2048x3072, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x256x1024, .f32⟩
  | .hbm, ⟨16, _⟩ => ⟨S8x256x1024, .f32⟩
  | .hbm, ⟨17, _⟩ => ⟨S8x2048x3072, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S8x2048x4x256, .f32⟩
  | .hbm, ⟨23, _⟩ => ⟨S8x256x4x256, .f32⟩
  | .hbm, ⟨24, _⟩ => ⟨S8x256x4x256, .f32⟩
  | .hbm, ⟨25, _⟩ => ⟨S8x4x2048x256, .f32⟩
  | .hbm, ⟨26, _⟩ => ⟨S_, .f32⟩
  | .hbm, ⟨27, _⟩ => ⟨S8x4x2048, .f32⟩
  | .hbm, ⟨28, _⟩ => ⟨S_, .f32⟩
  | .hbm, ⟨29, _⟩ => ⟨S8x4x2048, .f32⟩
  | .hbm, ⟨30, _⟩ => ⟨S8x4x2048, .f32⟩
  | .hbm, ⟨31, _⟩ => ⟨S8x4x2048x1, .f32⟩
  | .hbm, ⟨32, _⟩ => ⟨S8x4x2048x256, .f32⟩
  | .hbm, ⟨33, _⟩ => ⟨S8x4x2048x256, .f32⟩
  | .hbm, ⟨34, _⟩ => ⟨S8x4x2048x256, .f32⟩
  | .hbm, ⟨35, _⟩ => ⟨S_, .f32⟩
  | .hbm, ⟨36, _⟩ => ⟨S8x4x2048, .f32⟩
  | .hbm, ⟨37, _⟩ => ⟨S8x4x2048x1, .f32⟩
  | .hbm, ⟨38, _⟩ => ⟨S8x4x2048x256, .f32⟩
  | .hbm, ⟨39, _⟩ => ⟨S8x4x2048x256, .f32⟩
  | .hbm, ⟨40, _⟩ => ⟨S8x4x256x2048, .f32⟩
  | .hbm, ⟨41, _⟩ => ⟨S8x2048x4x256, .f32⟩
  | .hbm, ⟨42, _⟩ => ⟨S8x2048x1024, .f32⟩
  | .hbm, ⟨43, _⟩ => ⟨S8x2048x3x1024, .f32⟩
  | .hbm, ⟨44, _⟩ => ⟨S8x2048x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Memory.lean ====
abbrev S8x256x1024 : Shape := ⟨3, ![8, 256, 1024]⟩
abbrev S1x1024 : Shape := ⟨2, ![1, 1024]⟩
abbrev S1024x2048 : Shape := ⟨2, ![1024, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1024x2048, .bf16⟩
  | .hbm, ⟨3, _⟩ => ⟨S8x256x1024, .bf16⟩
  | .hbm, ⟨4, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryRefIdeal.lean ====
abbrev S8x256x1024 : Shape := ⟨3, ![8, 256, 1024]⟩
abbrev S1x1024 : Shape := ⟨2, ![1, 1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1024x2048, .bf16⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S1024x2048, .f32⟩
  | .hbm, ⟨20, _⟩ => ⟨S8x256x2048, .f32⟩
  | .hbm, ⟨21, _⟩ => ⟨S8x256x1024, .f32⟩
  | .hbm, ⟨22, _⟩ => ⟨S8x256x1024, .f32⟩
  | .hbm, ⟨23, _⟩ => ⟨S8x256x1024, .bf16⟩
  | .hbm, ⟨24, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Softmax.lean ====
/-
  Softmax sums over the extended reals. A weighted mean with the weights `exp (score)` does not depend on what is
  subtracted from every score, so a running sum over blocks of keys, rescaled whenever the running maximum grows, ends at
  the same mean as the softmax over all keys at once. A masked key has score `-∞` and weight zero.
-/
module

public import Idealize.ShloMosaic.Lib.Pointwise

@[expose] public section

noncomputable section

namespace Cert.Softmax

open Idealize.ShloMosaic

/-- A sum of reals is the same sum over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of products of reals is a real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose a ha using hf
  choose b hb using hg
  exact ⟨∑ i, a i * b i, by rw [coe_sum]; simp only [ha, hb, EReal.coe_mul]⟩

/-- The maximum of scores of which none is `+∞` and one is real is real. -/
theorem fold_max_real {n : ℕ} (x : Fin n → EReal) (b : EReal) (hb : b ≠ ⊤) (hx : ∀ i, x i ≠ ⊤) (i : Fin n) (hi : x i ≠ ⊥) :
    ∃ M : ℝ, Finset.univ.fold max b x = M := by
  have h1 : Finset.univ.fold max b x < ⊤ :=
    (Finset.fold_max_lt ⊤).mpr ⟨lt_top_iff_ne_top.mpr hb, fun j _ => lt_top_iff_ne_top.mpr (hx j)⟩
  have h2 : ⊥ < Finset.univ.fold max b x :=
    (Finset.lt_fold_max ⊥).mpr (Or.inr ⟨i, Finset.mem_univ i, bot_lt_iff_ne_bot.mpr hi⟩)
  exact ⟨_, (EReal.coe_toReal h1.ne h2.ne').symm⟩

/-- The weight of a key, masked or not. -/
theorem exp_sub (v : Prop) [Decidable v] (s M : ℝ) :
    Ideal.exp ((if v then (s : EReal) else ⊥) - (M : EReal)) = ((if v then Real.exp (s - M) else 0 : ℝ) : EReal) := by
  by_cases h : v
  · rw [if_pos h, if_pos h, ← EReal.coe_sub, Ideal.exp_coe]
  · rw [if_neg h, if_neg h, EReal.bot_sub, Ideal.exp_bot, EReal.coe_zero]

/-- A quotient of reals. -/
theorem div_real (a b : ℝ) (h : b ≠ 0) : Ideal.div (a : EReal) (b : EReal) = ((a / b : ℝ) : EReal) := by
  have hb : (b : EReal) ≠ 0 := fun e => h (EReal.coe_eq_zero.mp e)
  unfold Ideal.div
  rw [if_neg hb, ← EReal.coe_inv, ← EReal.coe_mul, div_eq_mul_inv]

section Mean

variable {N D : ℕ}

/-- The mean of the values `u` over the keys `S`, weighted by `exp` of the scores `σ`. -/
def mean (S : Finset (Fin N)) (σ : Fin N → ℝ) (u : Fin N → Fin D → ℝ) (d : Fin D) : ℝ :=
  (∑ k ∈ S, Real.exp (σ k) * u k d) / ∑ k ∈ S, Real.exp (σ k)

theorem weights_pos (S : Finset (Fin N)) (hS : S.Nonempty) (σ : Fin N → ℝ) : 0 < ∑ k ∈ S, Real.exp (σ k) :=
  Finset.sum_pos (fun _ _ => Real.exp_pos _) hS

/-- What is subtracted from every score divides out. -/
theorem mean_shift (S : Finset (Fin N)) (σ τ : Fin N → ℝ) (M : ℝ) (h : ∀ k ∈ S, τ k = σ k - M) (u : Fin N → Fin D → ℝ) (d : Fin D) :
    mean S τ u d = mean S σ u d := by
  have e1 : ∑ k ∈ S, Real.exp (τ k) * u k d = Real.exp (-M) * ∑ k ∈ S, Real.exp (σ k) * u k d := by
    rw [Finset.mul_sum]
    refine Finset.sum_congr rfl fun k hk => ?_
    rw [h k hk, sub_eq_add_neg, Real.exp_add]; ring
  have e2 : ∑ k ∈ S, Real.exp (τ k) = Real.exp (-M) * ∑ k ∈ S, Real.exp (σ k) := by
    rw [Finset.mul_sum]
    refine Finset.sum_congr rfl fun k hk => ?_
    rw [h k hk, sub_eq_add_neg, Real.exp_add]; ring
  unfold mean
  rw [e1, e2, mul_div_mul_left _ _ (Real.exp_pos _).ne']

/-- The running state after the keys `S`: nothing yet, or some real shift with the sums of the weights and of the
    weighted values at that shift. -/
def Running (S : Finset (Fin N)) (σ : Fin N → ℝ) (u : Fin N → Fin D → ℝ) (m l : EReal) (a : Fin D → EReal) : Prop :=
  (S = ∅ ∧ m = ⊥ ∧ l = 0 ∧ ∀ d, a d = 0) ∨
  (∃ M : ℝ, m = M ∧ l = ((∑ k ∈ S, Real.exp (σ k - M) : ℝ) : EReal) ∧ ∀ d, a d = ((∑ k ∈ S, Real.exp (σ k - M) * u k d : ℝ) : EReal))

/-- One block of keys more: the new maximum, the rescaled sums and the block's own. -/
theorem Running.step {n : ℕ} {S S' : Finset (Fin N)} {σ : Fin N → ℝ} {u : Fin N → Fin D → ℝ} {m l m' l' : EReal} {a a' : Fin D → EReal}
    (R : Running S σ u m l a) (key : Fin n → Fin N) (vis : Fin n → Prop) [DecidablePred vis] (c₀ : Fin n) (h₀ : vis c₀)
    (hS : ∀ f : Fin N → ℝ, ∑ k ∈ S', f k = ∑ k ∈ S, f k + ∑ c, if vis c then f (key c) else 0)
    (x : Fin n → EReal) (hx : ∀ c, x c = if vis c then (σ (key c) : EReal) else ⊥)
    (w : Fin n → Fin D → EReal) (hw : ∀ c d, w c d = u (key c) d)
    (hm : m' = max m (Finset.univ.fold max ⊥ x))
    (hl : l' = Ideal.exp (m - m') * l + ∑ c, Ideal.exp (x c - m'))
    (ha : ∀ d, a' d = Ideal.exp (m - m') * a d + ∑ c, Ideal.exp (x c - m') * w c d) : Running S' σ u m' l' a' := by
  have hxt : ∀ c, x c ≠ ⊤ := fun c => by rw [hx]; split_ifs <;> simp
  obtain ⟨B, hB⟩ := fold_max_real x ⊥ bot_ne_top hxt c₀ (by rw [hx, if_pos h₀]; simp)
  have hM : ∃ M : ℝ, m' = M := by
    rcases R with ⟨_, h, _⟩ | ⟨M, h, _⟩
    · exact ⟨B, by rw [hm, h, hB]; simp⟩
    · exact ⟨max M B, by rw [hm, h, hB]; exact (EReal.coe_strictMono.monotone.map_max).symm⟩
  obtain ⟨M', rfl⟩ := hM
  have e : ∀ c, Ideal.exp (x c - (M' : EReal)) = ((if vis c then Real.exp (σ (key c) - M') else 0 : ℝ) : EReal) := fun c => by
    rw [hx, exp_sub]
  have s1 : ∑ c, Ideal.exp (x c - (M' : EReal)) = ((∑ c, if vis c then Real.exp (σ (key c) - M') else 0 : ℝ) : EReal) := by
    rw [coe_sum]; exact Finset.sum_congr rfl fun c _ => e c
  have s2 : ∀ d, ∑ c, Ideal.exp (x c - (M' : EReal)) * w c d
      = ((∑ c, if vis c then Real.exp (σ (key c) - M') * u (key c) d else 0 : ℝ) : EReal) := fun d => by
    rw [coe_sum]
    refine Finset.sum_congr rfl fun c _ => ?_
    rw [e, hw, ← EReal.coe_mul]
    split_ifs <;> simp
  refine Or.inr ⟨M', rfl, ?_, fun d => ?_⟩
  · rw [hl, s1, hS fun k => Real.exp (σ k - M'), EReal.coe_add]
    congr 1
    rcases R with ⟨h, h1, h2, _⟩ | ⟨M, h1, h2, _⟩
    · rw [h2, h]; simp
    · rw [h1, h2, ← EReal.coe_sub, Ideal.exp_coe, ← EReal.coe_mul, Finset.mul_sum]
      congr 1
      refine Finset.sum_congr rfl fun k _ => ?_
      rw [← Real.exp_add]; congr 1; ring
  · rw [ha, s2, hS fun k => Real.exp (σ k - M') * u k d, EReal.coe_add]
    congr 1
    rcases R with ⟨h, h1, _, h3⟩ | ⟨M, h1, _, h3⟩
    · rw [h3, h]; simp
    · rw [h1, h3, ← EReal.coe_sub, Ideal.exp_coe, ← EReal.coe_mul, Finset.mul_sum]
      congr 1
      refine Finset.sum_congr rfl fun k _ => ?_
      rw [← mul_assoc, ← Real.exp_add]; congr 2; ring

/-- The running state's quotient is the weighted mean. -/
theorem Running.quotient {S : Finset (Fin N)} (hS : S.Nonempty) {σ : Fin N → ℝ} {u : Fin N → Fin D → ℝ} {m l : EReal} {a : Fin D → EReal}
    (R : Running S σ u m l a) (d : Fin D) : Ideal.div (a d) l = (mean S σ u d : EReal) := by
  rcases R with ⟨h, _⟩ | ⟨M, _, h2, h3⟩
  · exact absurd h hS.ne_empty
  · rw [h2, h3, div_real _ _ (weights_pos S hS fun k => σ k - M).ne']
    exact congrArg _ (mean_shift S σ (fun k => σ k - M) M (fun _ _ => rfl) u d)

/-- The softmax weight of a key, the maximum subtracted first. -/
theorem weight {S : Finset (Fin N)} (hS : S.Nonempty) (σ : Fin N → ℝ) (x : Fin N → EReal) (hx : ∀ k, x k = if k ∈ S then (σ k : EReal) else ⊥)
    (M : EReal) (hM : M = Finset.univ.fold max ⊥ x) (k : Fin N) :
    Ideal.div (Ideal.exp (x k - M)) (∑ j, Ideal.exp (x j - M))
      = ((if k ∈ S then Real.exp (σ k) / ∑ j ∈ S, Real.exp (σ j) else 0 : ℝ) : EReal) := by
  obtain ⟨c₀, h₀⟩ := hS
  have hxt : ∀ c, x c ≠ ⊤ := fun c => by rw [hx]; split_ifs <;> simp
  obtain ⟨B, hB⟩ := fold_max_real x ⊥ bot_ne_top hxt c₀ (by rw [hx, if_pos h₀]; simp)
  rw [hM, hB]
  have e : ∀ c, Ideal.exp (x c - (B : EReal)) = ((if c ∈ S then Real.exp (σ c - B) else 0 : ℝ) : EReal) := fun c => by
    rw [hx, exp_sub]
  have s1 : ∑ c, Ideal.exp (x c - (B : EReal)) = ((∑ c ∈ S, Real.exp (σ c - B) : ℝ) : EReal) := by
    rw [coe_sum]
    simp only [e]
    rw [← coe_sum, ← coe_sum, Finset.sum_ite_mem, Finset.univ_inter]
  rw [e, s1, div_real _ _ (weights_pos S ⟨c₀, h₀⟩ fun k => σ k - B).ne']
  congr 1
  split_ifs
  · have := mean_shift (D := 1) S σ (fun k => σ k - B) B (fun _ _ => rfl) (fun j _ => if j = k then 1 else 0) 0
    unfold mean at this
    simpa [‹k ∈ S›] using this
  · simp

/-- The sum of the values weighted by the difference of two softmaxes is the difference of their means. -/
theorem sum_diff (S : Finset (Fin N)) (σ τ : Fin N → ℝ) (lam : ℝ) (u : Fin N → Fin D → ℝ) (d : Fin D) :
    ∑ k, (((if k ∈ S then Real.exp (σ k) / ∑ j ∈ S, Real.exp (σ j) else 0 : ℝ) : EReal)
        - (lam : EReal) * ((if k ∈ S then Real.exp (τ k) / ∑ j ∈ S, Real.exp (τ j) else 0 : ℝ) : EReal)) * ((u k d : ℝ) : EReal)
      = ((mean S σ u d - lam * mean S τ u d : ℝ) : EReal) := by
  simp only [← EReal.coe_mul, ← EReal.coe_sub]
  rw [← coe_sum]
  congr 1
  unfold mean
  rw [Finset.sum_div, Finset.sum_div, Finset.mul_sum, ← Finset.sum_sub_distrib]
  have e := Finset.sum_ite_mem Finset.univ S fun k => Real.exp (σ k) * u k d / (∑ j ∈ S, Real.exp (σ j))
    - lam * (Real.exp (τ k) * u k d / ∑ j ∈ S, Real.exp (τ j))
  rw [Finset.univ_inter] at e
  rw [← e]
  refine Finset.sum_congr rfl fun k _ => ?_
  split_ifs <;> ring

end Mean

/-- Dividing a weighted sum by the total is weighting by the divided weights, whatever the values are. -/
theorem div_sum {n : ℕ} (e v : Fin n → EReal) (L : ℝ) (hL : 0 < L) :
    Ideal.div (∑ i, e i * v i) (L : EReal) = ∑ i, Ideal.div (e i) (L : EReal) * v i := by
  have hb : (L : EReal) ≠ 0 := fun h => hL.ne' (EReal.coe_eq_zero.mp h)
  have h : ∀ s : Finset (Fin n), ((L⁻¹ : ℝ) : EReal) * ∑ i ∈ s, e i * v i = ∑ i ∈ s, ((L⁻¹ : ℝ) : EReal) * (e i * v i) := fun s => by
    induction s using Finset.induction_on with
    | empty => simp
    | insert a s ha ih => rw [Finset.sum_insert ha, Finset.sum_insert ha, EReal.left_distrib_of_nonneg_of_ne_top (EReal.coe_nonneg.mpr (inv_pos.mpr hL).le) (EReal.coe_ne_top _), ih]
  unfold Ideal.div
  simp only [if_neg hb]
  rw [← EReal.coe_inv, mul_comm, h]
  exact Finset.sum_congr rfl fun i _ => by rw [← mul_assoc, mul_comm ((L⁻¹ : ℝ) : EReal)]

/-- The total weight of real scores is a positive real. -/
theorem total_real {n : ℕ} (x : Fin n → EReal) (hx : ∀ i, ∃ r : ℝ, x i = r) (i₀ : Fin n) :
    ∃ L : ℝ, 0 < L ∧ ∑ i, Ideal.exp (x i - Finset.univ.fold max ⊥ x) = L := by
  choose s hs using hx
  obtain ⟨B, hB⟩ := fold_max_real x ⊥ bot_ne_top (fun i => by rw [hs]; simp) i₀ (by rw [hs]; simp)
  refine ⟨∑ i, Real.exp (s i - B), Finset.sum_pos (fun _ _ => Real.exp_pos _) ⟨i₀, Finset.mem_univ _⟩, ?_⟩
  rw [hB, coe_sum]
  refine Finset.sum_congr rfl fun i _ => ?_
  rw [hs, ← EReal.coe_sub, Ideal.exp_coe]

end Cert.Softmax

end
-- ==== Proof.Attend.lean ====
/-
  One row of the causal differential attention: two softmaxes over the keys up to the row's own, each from half of the
  lanes, with a bias linear in the distance; the values are summed with the difference of the two, and the sum is
  normalized. The scores relative to the start of the row's block of 512 rows differ from these by a constant.
-/
module

public import proofs.«01_k».proof.Proof.Softmax

@[expose] public section

noncomputable section

namespace Cert.Attend

open Idealize.ShloMosaic Cert.Softmax

/-- Lane `e` of map `m`. -/
def lane (m : Fin 2) (e : Fin 64) : Fin 128 := ⟨m.val * 64 + e.val, by omega⟩

/-- Position `c` of block `j`. -/
def key (j : Fin 4) (c : Fin 512) : Fin 2048 := ⟨j.val * 512 + c.val, by omega⟩

theorem exists_key (s : Fin 2048) : ∃ j c, s = key j c :=
  ⟨⟨s.val / 512, by omega⟩, ⟨s.val % 512, by omega⟩, Fin.ext (by show s.val = s.val / 512 * 512 + s.val % 512; omega)⟩

/-- The score of key `k` for the row at position `s`. -/
def score (q : Fin 128 → ℝ) (K : Fin 2048 → Fin 128 → ℝ) (sl : ℝ) (s : Fin 2048) (m : Fin 2) (k : Fin 2048) : ℝ :=
  ∑ e, q (lane m e) * K k (lane m e) - sl * ((s.val : ℝ) - (k.val : ℝ))

/-- The score relative to the start of block `qi`. -/
def blockScore (q : Fin 128 → ℝ) (K : Fin 2048 → Fin 128 → ℝ) (sl : ℝ) (qi : Fin 4) (m : Fin 2) (k : Fin 2048) : ℝ :=
  ∑ e, q (lane m e) * K k (lane m e) + sl * ((k.val : ℝ) - (qi.val : ℝ) * 512)

/-- The first `n` keys. -/
def below (n : ℕ) : Finset (Fin 2048) := Finset.univ.filter fun k => k.val < n

theorem mem_below (n : ℕ) (k : Fin 2048) : k ∈ below n ↔ k.val < n := by simp [below]

/-- The row's sum of the values. -/
def diff (q : Fin 128 → ℝ) (K V : Fin 2048 → Fin 128 → ℝ) (sl lam : ℝ) (s : Fin 2048) (d : Fin 128) : ℝ :=
  mean (below (s.val + 1)) (score q K sl s 0) V d - lam * mean (below (s.val + 1)) (score q K sl s 1) V d

/-- The normalized row. -/
def normed (o g : Fin 128 → EReal) (d : Fin 128) : EReal :=
  o d * Ideal.rsqrt (Ideal.div (∑ e, o e * o e) (Ideal.ofBits .f32 0x43000000#32) + Ideal.ofBits .f32 0x358637BD#32) * g d
    * Ideal.ofBits .f32 0x3F4CCCCD#32

/-- The weight of the second map. -/
def lam (a b c d : Fin 64 → EReal) : EReal :=
  Ideal.exp (∑ x, a x * b x) - Ideal.exp (∑ x, c x * d x) + Ideal.ofBits .f32 0x3E4CCCCD#32

/-- The slope of head `h`. -/
def slope (h : Fin 8) : EReal :=
  Ideal.exp (Ideal.ofBits .f32 0x3F317218#32 * Ideal.div (Ideal.ofBits .f32 0xC1000000#32 *
    (Ideal.ofBits .f32 0x3F800000#32 + (((h.val : ℕ) : ℝ) : EReal))) (Ideal.ofBits .f32 0x41000000#32))

/-- Lane `d` of head `h`. -/
def headLane (h : Fin 8) (d : Fin 128) : Fin 1024 := ⟨h.val * 128 + d.val, by omega⟩

theorem exists_headLane (j : Fin 1024) : ∃ h d, j = headLane h d :=
  ⟨⟨j.val / 128, by omega⟩, ⟨j.val % 128, by omega⟩, Fin.ext (by show j.val = j.val / 128 * 128 + j.val % 128; omega)⟩

/-- The attention at batch `b`, position `s`, head `h`, lane `d`. -/
def result (Q K V : Fin 8 → Fin 2048 → Fin 1024 → ℝ) (sl : Fin 8 → ℝ) (lam : ℝ) (g : Fin 128 → EReal) (b : Fin 8) (s : Fin 2048) (h : Fin 8)
    (d : Fin 128) : EReal :=
  normed (fun d => ((diff (fun d => Q b s (headLane h d)) (fun n d => K b n (headLane h d)) (fun n d => V b n (headLane h d)) (sl h) lam s d : ℝ) : EReal)) g d

/-- The same by the lane of the whole row. -/
def cell (Q K V : Fin 8 → Fin 2048 → Fin 1024 → ℝ) (sl : Fin 8 → ℝ) (lam : ℝ) (g : Fin 128 → EReal) (b : Fin 8) (s : Fin 2048) (j : Fin 1024) : EReal :=
  result Q K V sl lam g b s ⟨j.val / 128, by omega⟩ ⟨j.val % 128, by omega⟩

theorem cell_headLane (Q K V : Fin 8 → Fin 2048 → Fin 1024 → ℝ) (sl : Fin 8 → ℝ) (lam : ℝ) (g : Fin 128 → EReal) (b : Fin 8) (s : Fin 2048) (h : Fin 8)
    (d : Fin 128) : cell Q K V sl lam g b s (headLane h d) = result Q K V sl lam g b s h d := by
  have eh : ∀ p, (⟨(headLane h d).val / 128, p⟩ : Fin 8) = h := fun p => Fin.ext (by simp only [headLane]; omega)
  have ed : ∀ p, (⟨(headLane h d).val % 128, p⟩ : Fin 128) = d := fun p => Fin.ext (by simp only [headLane]; omega)
  unfold cell
  rw [eh, ed]

theorem word_fifth : ∃ r : ℝ, Ideal.ofBits .f32 0x3E4CCCCD#32 = r := by simp [Ideal.ofBits, Ideal.ieee, -EReal.coe_mul, -EReal.coe_neg]

theorem word_one : Ideal.ofBits .f32 0x3F800000#32 = 1 := by
  have e : Ideal.ofBits .f32 0x3F800000#32 = ((1 : ℝ) : EReal) := by
    simp [Ideal.ofBits, Ideal.ieee, -EReal.coe_mul, -EReal.coe_one]
    norm_num
  rw [e, EReal.coe_one]

/-- The head's number, from its word. -/
theorem head_word (h : Fin 8) : FloatOps.sitofp (F := Ideal) FTy.f32 (BitVec.ofNat 32 h.val) = (((h.val : ℕ) : ℝ) : EReal) := by
  have e : ∀ h : Fin 8, (BitVec.ofNat 32 h.val).toInt = (h.val : ℤ) := by decide
  show (((BitVec.toInt _ : ℤ) : ℝ) : EReal) = _
  rw [e]
  simp

theorem lam_real (a b c d : Fin 64 → ℝ) : ∃ l : ℝ, lam (fun x => a x) (fun x => b x) (fun x => c x) (fun x => d x) = l := by
  obtain ⟨w, hw⟩ := word_fifth
  refine ⟨Real.exp (∑ x, a x * b x) - Real.exp (∑ x, c x * d x) + w, ?_⟩
  unfold lam
  simp only [hw, ← EReal.coe_mul]
  rw [← coe_sum, ← coe_sum, Ideal.exp_coe, Ideal.exp_coe, ← EReal.coe_sub, ← EReal.coe_add]

theorem slope_real (h : Fin 8) : ∃ r : ℝ, slope h = r := by
  obtain ⟨a, ha⟩ : ∃ r : ℝ, Ideal.ofBits .f32 0x3F317218#32 = r := by simp [Ideal.ofBits, Ideal.ieee, -EReal.coe_mul, -EReal.coe_neg]
  obtain ⟨b, hb⟩ : ∃ r : ℝ, Ideal.ofBits .f32 0xC1000000#32 = r := by simp [Ideal.ofBits, Ideal.ieee, -EReal.coe_mul, -EReal.coe_neg]
  obtain ⟨c, hc⟩ : ∃ r : ℝ, Ideal.ofBits .f32 0x3F800000#32 = r := by simp [Ideal.ofBits, Ideal.ieee, -EReal.coe_mul, -EReal.coe_neg]
  obtain ⟨e, he, hd⟩ : ∃ r : ℝ, r ≠ 0 ∧ Ideal.ofBits .f32 0x41000000#32 = r := ⟨8, by norm_num, by simp [Ideal.ofBits, Ideal.ieee, -EReal.coe_mul]; norm_num⟩
  unfold slope
  rw [ha, hb, hc, hd, ← EReal.coe_add, ← EReal.coe_mul, div_real _ _ he, ← EReal.coe_mul, Ideal.exp_coe]
  exact ⟨_, rfl⟩

/-- Scores from the lanes of one map: the other lanes are zero. -/
theorem dot_map (m : Fin 2) (q K : Fin 128 → ℝ) (x : Fin 128 → EReal) (hx : ∀ d, x d = if d.val / 64 = m.val then (q d : EReal) else 0) :
    ∑ d, x d * (K d : EReal) = ((∑ e, q (lane m e) * K (lane m e) : ℝ) : EReal) := by
  have e : ∀ d, x d * (K d : EReal) = ((if d.val / 64 = m.val then q d * K d else 0 : ℝ) : EReal) := fun d => by
    rw [hx]; split_ifs <;> simp
  simp only [e]
  rw [← coe_sum]
  congr 1
  rw [← Finset.sum_filter]
  symm
  refine Finset.sum_bij (fun e _ => lane m e) ?_ ?_ ?_ (fun _ _ => rfl)
  · intro a _
    simp only [Finset.mem_filter, Finset.mem_univ, true_and]
    show (m.val * 64 + a.val) / 64 = m.val
    omega
  · intro a _ b _ h
    have := congrArg Fin.val h
    apply Fin.ext
    change m.val * 64 + a.val = m.val * 64 + b.val at this
    omega
  · intro b hb
    simp only [Finset.mem_filter, Finset.mem_univ, true_and] at hb
    exact ⟨⟨b.val % 64, by omega⟩, Finset.mem_univ _, Fin.ext (by show m.val * 64 + b.val % 64 = b.val; omega)⟩

/-- The keys below a position of block `j` are those of the blocks before it and the block's own. -/
theorem sum_below (j : Fin 4) (n : ℕ) (hn : n ≤ 512) (f : Fin 2048 → ℝ) :
    ∑ k ∈ below (j.val * 512 + n), f k = ∑ k ∈ below (j.val * 512), f k + ∑ c : Fin 512, if c.val < n then f (key j c) else 0 := by
  have inj : Function.Injective (key j) := fun a b h => by
    have := congrArg Fin.val h
    apply Fin.ext
    change j.val * 512 + a.val = j.val * 512 + b.val at this
    omega
  rw [← Finset.sum_filter, ← Finset.sum_image (f := f) (g := key j) (fun a _ b _ h => inj h), ← Finset.sum_union]
  · congr 1
    ext k
    simp only [mem_below, Finset.mem_union, Finset.mem_image, Finset.mem_filter, Finset.mem_univ, true_and]
    constructor
    · intro h
      by_cases h' : k.val < j.val * 512
      · exact Or.inl h'
      · refine Or.inr ⟨⟨k.val - j.val * 512, by omega⟩, by show k.val - j.val * 512 < n; omega, Fin.ext ?_⟩
        show j.val * 512 + (k.val - j.val * 512) = k.val
        omega
    · rintro (h | ⟨c, hc, rfl⟩)
      · omega
      · show j.val * 512 + c.val < _
        omega
  · rw [Finset.disjoint_left]
    intro k hk hk'
    simp only [mem_below, Finset.mem_image, Finset.mem_filter, Finset.mem_univ, true_and] at hk hk'
    obtain ⟨c, _, rfl⟩ := hk'
    change j.val * 512 + c.val < _ at hk
    omega

/-- The quotient after the row's last block. -/
theorem quotient {q : Fin 128 → ℝ} {K V : Fin 2048 → Fin 128 → ℝ} {sl : ℝ} {qi : Fin 4} {r : Fin 512} {m : Fin 2} {M l : EReal} {a : Fin 128 → EReal}
    (R : Running (below (qi.val * 512 + (r.val + 1))) (blockScore q K sl qi m) V M l a) (d : Fin 128) :
    Ideal.div (a d) l = ((mean (below ((key qi r).val + 1)) (score q K sl (key qi r) m) V d : ℝ) : EReal) := by
  have hne : (below (qi.val * 512 + (r.val + 1))).Nonempty := ⟨key qi r, (mem_below _ _).mpr (by show qi.val * 512 + r.val < _; omega)⟩
  rw [R.quotient hne d]
  congr 1
  show _ = mean (below (qi.val * 512 + r.val + 1)) _ V d
  rw [add_assoc]
  refine (mean_shift _ _ _ (sl * r.val) (fun k _ => ?_) V d).symm
  unfold score blockScore
  have : ((key qi r).val : ℝ) = qi.val * 512 + r.val := by
    show ((qi.val * 512 + r.val : ℕ) : ℝ) = _
    push_cast
    ring
  rw [this]
  ring

end Cert.Attend

end
-- ==== Proof.AttnTrip.lean ====
/-
  The attention call's loop over the blocks of keys before the row's own: each trip is one step of the running softmax of
  each of the block's 1024 rows, 512 for each map.
-/
module

public import proofs.«01_k».proof.Proof.Gen.AttnIdeal.Value
public import proofs.«01_k».proof.Proof.Attend
public import Idealize.ShloMosaic.Lib.Pipeline.ValueKit
public import Idealize.ShloMosaic.Lib.Pipeline.ReadBack

@[expose] public section

set_option maxRecDepth 16384

noncomputable section

namespace Cert.AttnIdeal.Block

open Cert.AttnIdeal Cert.AttnIdeal.Gen Idealize.ShloMosaic Idealize.ShloMosaic.TcCoe Idealize.SL.Sem
open Idealize.ShloMosaic.Pipeline (Dat)
open Cert.Softmax Cert.Attend

/-- Row `r` of map `mp` in the block of 1024 rows. -/
def mapRow (mp : Fin 2) (r : Fin 512) : Fin 1024 := ⟨mp.val * 512 + r.val, by omega⟩

theorem at0 (r : Fin 512) : mapRow 0 r = ⟨r.val, by omega⟩ := Fin.ext (by show 0 * 512 + r.val = r.val; omega)
theorem at1 (r : Fin 512) : mapRow 1 r = ⟨512 + r.val, by omega⟩ := rfl

/-- Each map's queries: its own half of the lanes, zero in the other. -/
theorem halves (q : FVec Ideal S1x512x128 .bf16) (mp : Fin 2) (r : Fin 512) (d : Fin 128) :
    k0_pay2 (F := Ideal) q (ix2 (mapRow mp r) d) = if d.val / 64 = mp.val then q (ix3 0 r d) else 0 := by
  have w : ∀ d : Fin 128, IntOp.cmpi CmpIPredicate.slt (BitVec.ofNat 32 d.val) 64#32 = (if d.val / 64 = 0 then 1#1 else 0#1)
      ∧ IntOp.cmpi CmpIPredicate.sge (BitVec.ofNat 32 d.val) 64#32 = (if d.val / 64 = 1 then 1#1 else 0#1) := by decide
  match mp with
  | 0 =>
    rw [at0]
    pointwise [k0_pay2]
    rw [(w d).1]
    show Scalar.select _ _ _ = if d.val / 64 = 0 then _ else _
    split_ifs <;> rfl
  | 1 =>
    rw [at1]
    pointwise [k0_pay2]
    rw [(w d).2]
    show Scalar.select _ _ _ = if d.val / 64 = 1 then _ else _
    split_ifs <;> rfl

/-- The distance of a key from the start of the row's block, as the words compute it. -/
theorem dist_word : ∀ (k qi : Fin 4) (c : Fin 512), (IntOp.addi (BitVec.ofNat 32 c.val)
    (Scalar.muli (Scalar.subi (Scf.iv 0#32 1#32 k.val) (BitVec.ofNat 32 qi.val)) 512#32)).toInt
      = ((key k c).val : ℤ) - (qi.val : ℤ) * 512 := by decide +kernel

theorem trips_eq (i : grid0.Coords) : (k0_t1_loop i).trips = (i 2).val := by
  have h : ∀ q : Fin 4, Scf.trips 0#32 (Scalar.addi 0#32 (Scalar.muli (Scalar.divsi (Scalar.subi (BitVec.ofNat 32 q.val) 0#32) 1#32) 1#32)) 1#32
      = q.val := by decide
  exact h (i 2)

/-- The scores of a block of keys. -/
theorem scores (i : grid0.Coords) (v1 : EReal) (q : FVec Ideal S1x512x128 .bf16) (k : Fin (k0_t1_loop i).trips) (Kj : FVec Ideal S1x512x128 .bf16)
    (qi j : Fin 4) (hqi : (i 2).val = qi.val) (hj : k.val = j.val) (Q : Fin 512 → Fin 128 → ℝ) (K : Fin 2048 → Fin 128 → ℝ) (sl : ℝ) (hsl : v1 = sl)
    (hQ : ∀ r d, q (ix3 0 r d) = Q r d) (hK : ∀ n d, Kj (ix3 0 n d) = K (key j n) d) (mp : Fin 2) (r c : Fin 512) :
    k0_pay6 (F := Ideal) i v1 q k Kj (ix2 (mapRow mp r) c) = ((blockScore (Q r) K sl qi mp (key j c) : ℝ) : EReal) := by
  have hq := halves q mp r
  unfold k0_pay6
  generalize k0_pay2 (F := Ideal) q = qq at hq ⊢
  pointwise []
  simp only [hK]
  rw [dot_map mp (Q r) (K (key j c)) (fun d => qq (ix2 (mapRow mp r) d)) (fun d => by rw [hq, hQ]), hqi, hj, hsl]
  have e : FloatOps.sitofp (F := Ideal) FTy.f32 (IntOp.addi (BitVec.ofNat 32 c.val)
      (Scalar.muli (Scalar.subi (Scf.iv 0#32 1#32 j.val) (BitVec.ofNat 32 qi.val)) 512#32)) = ((((key j c).val : ℝ) - (qi.val : ℝ) * 512 : ℝ) : EReal) := by
    show (((BitVec.toInt _ : ℤ) : ℝ) : EReal) = _
    rw [dist_word]
    push_cast
    rfl
  rw [e, ← EReal.coe_mul, ← EReal.coe_add]
  rfl

theorem max_row (i : grid0.Coords) (v1 : EReal) (q : FVec Ideal S1x512x128 .bf16) (k : Fin (k0_t1_loop i).trips) (m : FVec Ideal S1024x1 .f32)
    (K : FVec Ideal S1x512x128 .bf16) (R : Fin 1024) : k0_pay7 (F := Ideal) i v1 q k m K (ix2 R 0)
      = max (m (ix2 R 0)) (Finset.univ.fold max (Ideal.ofBits FTy.f32 0xFF800000#32) fun x => k0_pay6 (F := Ideal) i v1 q k K (ix2 R x)) := by
  unfold k0_pay7
  generalize k0_pay6 (F := Ideal) i v1 q k K = y
  pointwise []

theorem total_row (i : grid0.Coords) (v1 : EReal) (q : FVec Ideal S1x512x128 .bf16) (k : Fin (k0_t1_loop i).trips) (m l : FVec Ideal S1024x1 .f32)
    (K : FVec Ideal S1x512x128 .bf16) (R : Fin 1024) : k0_pay10 (F := Ideal) i v1 q k m l K (ix2 R 0)
      = Ideal.exp (m (ix2 R 0) - k0_pay7 (F := Ideal) i v1 q k m K (ix2 R 0)) * l (ix2 R 0)
        + ∑ x, Ideal.exp (k0_pay6 (F := Ideal) i v1 q k K (ix2 R x) - k0_pay7 (F := Ideal) i v1 q k m K (ix2 R 0)) := by
  unfold k0_pay10 k0_pay9 k0_pay8
  generalize k0_pay7 (F := Ideal) i v1 q k m K = M
  generalize k0_pay6 (F := Ideal) i v1 q k K = y
  pointwise []

theorem sum_row (i : grid0.Coords) (v1 : EReal) (q : FVec Ideal S1x512x128 .bf16) (k : Fin (k0_t1_loop i).trips) (m : FVec Ideal S1024x1 .f32)
    (a : FVec Ideal S1024x128 .f32) (K V : FVec Ideal S1x512x128 .bf16) (R : Fin 1024) (d : Fin 128) : k0_pay11 (F := Ideal) i v1 q k m a K V (ix2 R d)
      = Ideal.exp (m (ix2 R 0) - k0_pay7 (F := Ideal) i v1 q k m K (ix2 R 0)) * a (ix2 R d)
        + ∑ x, Ideal.exp (k0_pay6 (F := Ideal) i v1 q k K (ix2 R x) - k0_pay7 (F := Ideal) i v1 q k m K (ix2 R 0)) * V (ix3 0 x d) := by
  unfold k0_pay11 k0_pay9 k0_pay8
  generalize k0_pay7 (F := Ideal) i v1 q k m K = M
  generalize k0_pay6 (F := Ideal) i v1 q k K = y
  pointwise []

theorem neg_inf : Ideal.ofBits .f32 0xFF800000#32 = ⊥ := by simp [Ideal.ofBits, Ideal.ieee]

theorem zero_word : Ideal.ofBits .f32 0x00000000#32 = 0 := by simp [Ideal.ofBits, Ideal.ieee]

/-- One trip, on the blocks of keys and values it reads. -/
theorem trip (c : Dev nD) (bd) (i : grid0.Coords) (a0 h0 a1 h1 a2 h2 a3 h3 a4 h4 a5 h5 a6 h6 a7 h7 a8 h8 a9 h9) (v1 : Elt Ideal .f32) (v2)
    (Kb Vb : FVec Ideal S1x2048x128 .bf16) (k : Fin (k0_t1_loop i).trips) (j : Fin 4) (hj : k.val = j.val) (acc) :
    ∃ Kj Vj : FVec Ideal S1x512x128 .bf16, (∀ n d, Kj (ix3 0 n d) = Kb (ix3 0 (key j n) d)) ∧ (∀ n d, Vj (ix3 0 n d) = Vb (ix3 0 (key j n) d)) ∧
      tripR_k0_t1 (F := Ideal) Variants.none c bd i a0 h0 a1 h1 a2 h2 a3 h3 a4 h4 a5 h5 a6 h6 a7 h7 a8 h8 a9 h9 v1 v2 (h2.unread Kb) (h3.unread Vb) k acc
        = (k0_pay7 i v1 v2 k acc.1 Kj, k0_pay10 i v1 v2 k acc.1 acc.2.1 Kj, k0_pay11 i v1 v2 k acc.1 acc.2.2 Kj Vj) := by
  have w : ∀ q : Fin 4, BitVec.toNat (Scalar.indexCast (Scalar.muli (Scf.iv 0#32 1#32 q.val) 512#32)) = q.val * 512 := by decide
  unfold tripR_k0_t1 trip_k0_t1
  dsimp only
  sl_unfold_words
  refine ⟨_, _, ?_, ?_, rfl⟩
  · intro n d
    rw [View.readAt_eq_ld, Memref.IsWhole.read_unread]
    refine congrArg Kb ?_
    funext a
    apply Fin.ext
    match a with
    | ⟨0, _⟩ => rfl
    | ⟨1, _⟩ => show BitVec.toNat (Scalar.indexCast (Scalar.muli (Scf.iv 0#32 1#32 k.val) 512#32)) + 1 * n.val = j.val * 512 + n.val
                rw [hj, w]; omega
    | ⟨2, _⟩ => show 0 + 1 * d.val = d.val; omega
  · intro n d
    rw [View.readAt_eq_ld, Memref.IsWhole.read_unread]
    refine congrArg Vb ?_
    funext a
    apply Fin.ext
    match a with
    | ⟨0, _⟩ => rfl
    | ⟨1, _⟩ => show BitVec.toNat (Scalar.indexCast (Scalar.muli (Scf.iv 0#32 1#32 k.val) 512#32)) + 1 * n.val = j.val * 512 + n.val
                rw [hj, w]; omega
    | ⟨2, _⟩ => show 0 + 1 * d.val = d.val; omega

/-- The state before trip `j`, for each row. -/
theorem loop (c : Dev nD) (bd) (i : grid0.Coords) (a0 h0 a1 h1 a2 h2 a3 h3 a4 h4 a5 h5 a6 h6 a7 h7 a8 h8 a9 h9) (v1 : Elt Ideal .f32) (v2)
    (Kb Vb : FVec Ideal S1x2048x128 .bf16) (qi : Fin 4) (hqi : (i 2).val = qi.val) (Q : Fin 512 → Fin 128 → ℝ) (K V : Fin 2048 → Fin 128 → ℝ)
    (sl : ℝ) (hsl : v1 = (sl : EReal)) (hQ : ∀ r d, v2 (ix3 0 r d) = (Q r d : EReal)) (hK : ∀ n d, Kb (ix3 0 n d) = (K n d : EReal))
    (hV : ∀ n d, Vb (ix3 0 n d) = (V n d : EReal)) (mp : Fin 2) (r : Fin 512) : ∀ j : ℕ, j ≤ qi.val →
    ∀ st, st_k0_t1 (F := Ideal) Variants.none c bd i a0 h0 a1 h1 a2 h2 a3 h3 a4 h4 a5 h5 a6 h6 a7 h7 a8 h8 a9 h9 v1 v2 (h2.unread Kb) (h3.unread Vb)
      (k0_pay3, k0_pay4, k0_pay5) j = st →
    Running (below (j * 512)) (blockScore (Q r) K sl qi mp) V (st.1 (ix2 (mapRow mp r) 0)) (st.2.1 (ix2 (mapRow mp r) 0)) (fun d => st.2.2 (ix2 (mapRow mp r) d)) := by
  intro j
  induction j with
  | zero =>
    rintro - st rfl
    rw [st_k0_t1_zero]
    refine Or.inl ⟨by ext k; simp [mem_below], ?_, ?_, fun d => ?_⟩
    · exact neg_inf
    · exact zero_word
    · exact zero_word
  | succ j ih =>
    rintro hj st rfl
    have ht : j < (k0_t1_loop i).trips := by rw [trips_eq, hqi]; omega
    have hs := st_k0_t1_succ (F := Ideal) Variants.none c bd i a0 h0 a1 h1 a2 h2 a3 h3 a4 h4 a5 h5 a6 h6 a7 h7 a8 h8 a9 h9 v1 v2 (h2.unread Kb) (h3.unread Vb)
      (k0_pay3, k0_pay4, k0_pay5) ⟨j, ht⟩
    change st_k0_t1 _ _ _ _ _ _ _ _ _ _ _ _ _ _ _ _ _ _ _ _ _ _ _ _ _ _ _ _ _ (j + 1) = _ at hs
    rw [hs]
    have hR := ih (by omega) _ rfl
    generalize st_k0_t1 (F := Ideal) Variants.none c bd i a0 h0 a1 h1 a2 h2 a3 h3 a4 h4 a5 h5 a6 h6 a7 h7 a8 h8 a9 h9 v1 v2 (h2.unread Kb) (h3.unread Vb)
      (k0_pay3, k0_pay4, k0_pay5) j = acc at hR ⊢
    obtain ⟨Kj, Vj, eK, eV, e⟩ := trip c bd i a0 h0 a1 h1 a2 h2 a3 h3 a4 h4 a5 h5 a6 h6 a7 h7 a8 h8 a9 h9 v1 v2 Kb Vb ⟨j, ht⟩ ⟨j, by omega⟩ rfl acc
    rw [e]
    refine hR.step (key ⟨j, by omega⟩) (fun c => c.val < 512) 0 (by decide) (fun f => ?_)
      (fun c => k0_pay6 (F := Ideal) i v1 v2 ⟨j, ht⟩ Kj (ix2 (mapRow mp r) c)) (fun c => ?_) (fun c d => Vj (ix3 0 c d)) (fun c d => ?_) ?_ ?_ (fun d => ?_)
    · rw [Nat.succ_mul]; exact sum_below ⟨j, by omega⟩ 512 le_rfl f
    · rw [if_pos c.isLt]; exact scores i v1 v2 ⟨j, ht⟩ Kj qi ⟨j, by omega⟩ hqi rfl Q K sl hsl hQ (fun n d => by rw [eK, hK]) mp r c
    · rw [eV, hV]
    · rw [← neg_inf]; exact max_row i v1 v2 ⟨j, ht⟩ acc.1 Kj (mapRow mp r)
    · exact total_row i v1 v2 ⟨j, ht⟩ acc.1 acc.2.1 Kj (mapRow mp r)
    · exact sum_row i v1 v2 ⟨j, ht⟩ acc.1 acc.2.2 Kj Vj (mapRow mp r) d

end Cert.AttnIdeal.Block

end
-- ==== Proof.AttnDiag.lean ====
/-
  The attention call's last block of keys, the row's own, and what is stored: the two quotients' difference, normalized.
-/
module

public import proofs.«01_k».proof.Proof.AttnTrip

@[expose] public section

set_option maxRecDepth 16384

noncomputable section

namespace Cert.AttnIdeal.Block

open Cert.AttnIdeal Cert.AttnIdeal.Gen Idealize.ShloMosaic Idealize.ShloMosaic.TcCoe Idealize.SL.Sem
open Idealize.ShloMosaic.Pipeline (Dat)
open Cert.Softmax Cert.Attend

theorem dot_row (q K : FVec Ideal S1x512x128 .bf16) (R : Fin 1024) (c : Fin 512) : k0_pay19 (F := Ideal) q K (ix2 R c)
    = ∑ x, k0_pay2 (F := Ideal) q (ix2 R x) * K (ix3 0 c x) := by
  unfold k0_pay19
  generalize k0_pay2 (F := Ideal) q = qq
  pointwise []

/-- The scores of the row's own block; later keys count as minus infinity. -/
theorem masked (v1 : EReal) (v17 : IVec S1x512 32) (s : FVec Ideal S1024x512 .f32) (w : BitVec 32) (mp : Fin 2) (r c : Fin 512) :
    k0_pay20 (F := Ideal) v1 v17 s w (ix2 (mapRow mp r) c) = if c.val < r.val + 1 then
      s (ix2 (mapRow mp r) c) + v1 * FloatOps.sitofp (F := Ideal) FTy.f32 (IntOp.addi (v17 (ix2 0 c)) (Scalar.muli w 512#32)) else ⊥ := by
  have e : ∀ c r : Fin 512, IntOp.cmpi CmpIPredicate.sge (BitVec.ofNat 32 r.val) (BitVec.ofNat 32 c.val) = if c.val < r.val + 1 then 1#1 else 0#1 := by
    intro c r
    have hc : (BitVec.ofNat 32 c.val).toInt = c.val := by rw [BitVec.toInt_eq_toNat_cond, BitVec.toNat_ofNat]; omega
    have hr : (BitVec.ofNat 32 r.val).toInt = r.val := by rw [BitVec.toInt_eq_toNat_cond, BitVec.toNat_ofNat]; omega
    show BitVec.ofBool (decide ((BitVec.ofNat 32 c.val).toInt ≤ (BitVec.ofNat 32 r.val).toInt)) = _
    rw [hc, hr]
    by_cases h : c.val < r.val + 1
    · rw [if_pos h, decide_eq_true (by omega)]; rfl
    · rw [if_neg h, decide_eq_false (by omega)]; rfl
  rw [← neg_inf]
  match mp with
  | 0 =>
    rw [at0]
    pointwise [k0_pay20]
    rw [e c r]
    split_ifs <;> rfl
  | 1 =>
    rw [at1]
    pointwise [k0_pay20]
    rw [e c r]
    split_ifs <;> rfl

theorem last_max (v1 : EReal) (v17 : IVec S1x512 32) (m : FVec Ideal S1024x1 .f32) (s : FVec Ideal S1024x512 .f32) (w : BitVec 32) (R : Fin 1024) :
    k0_pay21 (F := Ideal) v1 v17 m s w (ix2 R 0)
      = max (m (ix2 R 0)) (Finset.univ.fold max (Ideal.ofBits FTy.f32 0xFF800000#32) fun x => k0_pay20 (F := Ideal) v1 v17 s w (ix2 R x)) := by
  unfold k0_pay21
  generalize k0_pay20 (F := Ideal) v1 v17 s w = y
  pointwise []

theorem last_total (v1 : EReal) (v17 : IVec S1x512 32) (m l : FVec Ideal S1024x1 .f32) (s : FVec Ideal S1024x512 .f32) (w : BitVec 32) (R : Fin 1024) :
    k0_pay24 (F := Ideal) v1 v17 m l s w (ix2 R 0)
      = Ideal.exp (m (ix2 R 0) - k0_pay21 (F := Ideal) v1 v17 m s w (ix2 R 0)) * l (ix2 R 0)
        + ∑ x, Ideal.exp (k0_pay20 (F := Ideal) v1 v17 s w (ix2 R x) - k0_pay21 (F := Ideal) v1 v17 m s w (ix2 R 0)) := by
  unfold k0_pay24 k0_pay23 k0_pay22
  generalize k0_pay21 (F := Ideal) v1 v17 m s w = M
  generalize k0_pay20 (F := Ideal) v1 v17 s w = y
  pointwise []

theorem last_sum (v1 : EReal) (v17 : IVec S1x512 32) (m : FVec Ideal S1024x1 .f32) (a : FVec Ideal S1024x128 .f32) (V : FVec Ideal S1x512x128 .bf16)
    (s : FVec Ideal S1024x512 .f32) (w : BitVec 32) (R : Fin 1024) (d : Fin 128) :
    k0_pay25 (F := Ideal) v1 v17 m a (k0_pay18 V) s w (ix2 R d)
      = Ideal.exp (m (ix2 R 0) - k0_pay21 (F := Ideal) v1 v17 m s w (ix2 R 0)) * a (ix2 R d)
        + ∑ x, Ideal.exp (k0_pay20 (F := Ideal) v1 v17 s w (ix2 R x) - k0_pay21 (F := Ideal) v1 v17 m s w (ix2 R 0)) * V (ix3 0 x d) := by
  unfold k0_pay25 k0_pay23 k0_pay22 k0_pay18
  generalize k0_pay21 (F := Ideal) v1 v17 m s w = M
  generalize k0_pay20 (F := Ideal) v1 v17 s w = y
  pointwise []

theorem same : ∀ q : Fin 4, Scalar.subi (BitVec.ofNat 32 q.val) (BitVec.ofNat 32 q.val) = 0#32 := by decide

theorem same' : ∀ q : Fin 4, Scalar.subi (Scf.iv 0#32 1#32 q.val) (BitVec.ofNat 32 q.val) = 0#32 := by decide

/-- The state after the row's own block. -/
theorem last (v1 : EReal) (v17 : IVec S1x512 32) (q Kj Vj : FVec Ideal S1x512x128 .bf16) (m l : FVec Ideal S1024x1 .f32) (a : FVec Ideal S1024x128 .f32)
    (qi : Fin 4) (Q : Fin 512 → Fin 128 → ℝ) (K V : Fin 2048 → Fin 128 → ℝ) (sl : ℝ) (hsl : v1 = (sl : EReal)) (hi : ∀ c, v17 (ix2 0 c) = BitVec.ofNat 32 c.val)
    (hQ : ∀ r d, q (ix3 0 r d) = (Q r d : EReal)) (hK : ∀ n d, Kj (ix3 0 n d) = (K (key qi n) d : EReal)) (hV : ∀ n d, Vj (ix3 0 n d) = (V (key qi n) d : EReal))
    (mp : Fin 2) (r : Fin 512)
    (R : Running (below (qi.val * 512)) (blockScore (Q r) K sl qi mp) V (m (ix2 (mapRow mp r) 0)) (l (ix2 (mapRow mp r) 0)) (fun d => a (ix2 (mapRow mp r) d))) :
    Running (below (qi.val * 512 + (r.val + 1))) (blockScore (Q r) K sl qi mp) V
      (k0_pay21 (F := Ideal) v1 v17 m (k0_pay19 q Kj) (Scalar.subi (BitVec.ofNat 32 qi.val) (BitVec.ofNat 32 qi.val)) (ix2 (mapRow mp r) 0))
      (k0_pay24 (F := Ideal) v1 v17 m l (k0_pay19 q Kj) (Scalar.subi (BitVec.ofNat 32 qi.val) (BitVec.ofNat 32 qi.val)) (ix2 (mapRow mp r) 0))
      (fun d => k0_pay25 (F := Ideal) v1 v17 m a (k0_pay18 Vj) (k0_pay19 q Kj) (Scalar.subi (BitVec.ofNat 32 qi.val) (BitVec.ofNat 32 qi.val)) (ix2 (mapRow mp r) d)) := by
  generalize hw : Scalar.subi (BitVec.ofNat 32 qi.val) (BitVec.ofNat 32 qi.val) = w
  have w0 : w = 0#32 := by rw [← hw]; exact same qi
  refine R.step (key qi) (fun c => c.val < r.val + 1) 0 (by show 0 < r.val + 1; omega) (sum_below qi (r.val + 1) (by omega))
    (fun c => k0_pay20 (F := Ideal) v1 v17 (k0_pay19 q Kj) w (ix2 (mapRow mp r) c)) (fun c => ?_) (fun c d => Vj (ix3 0 c d)) (fun c d => hV c d) ?_ ?_ (fun d => ?_)
  · show k0_pay20 (F := Ideal) v1 v17 (k0_pay19 q Kj) w (ix2 (mapRow mp r) c) = _
    rw [masked, dot_row]
    simp only [hK]
    have hq := halves q mp r
    rw [dot_map mp (Q r) (K (key qi c)) (fun d => k0_pay2 (F := Ideal) q (ix2 (mapRow mp r) d)) (fun d => by rw [hq, hQ]), hsl, hi, w0]
    have e : FloatOps.sitofp (F := Ideal) FTy.f32 (IntOp.addi (BitVec.ofNat 32 c.val) (Scalar.muli 0#32 512#32))
        = ((((key qi c).val : ℝ) - (qi.val : ℝ) * 512 : ℝ) : EReal) := by
      have h := dist_word qi qi c
      have e : Scalar.subi (Scf.iv 0#32 1#32 qi.val) (BitVec.ofNat 32 qi.val) = 0#32 := same' qi
      rw [e] at h
      show (((BitVec.toInt _ : ℤ) : ℝ) : EReal) = _
      rw [h]
      push_cast
      rfl
    rw [e, ← EReal.coe_mul, ← EReal.coe_add]
    rfl
  · rw [← neg_inf]; exact last_max v1 v17 m (k0_pay19 q Kj) w (mapRow mp r)
  · exact last_total v1 v17 m l (k0_pay19 q Kj) w (mapRow mp r)
  · exact last_sum v1 v17 m a Vj (k0_pay19 q Kj) w (mapRow mp r) d

theorem lam_word (a b c d : FVec Ideal S1x64 .f32) : k0_pay26 (F := Ideal) a b c d (ix2 0 0) + Ideal.ofBits .f32 0x3E4CCCCD#32
    = Attend.lam (fun x => a (ix2 0 x)) (fun x => b (ix2 0 x)) (fun x => c (ix2 0 x)) (fun x => d (ix2 0 x)) := by
  unfold Attend.lam
  pointwise [k0_pay26]

theorem stored (l : FVec Ideal S1024x1 .f32) (a : FVec Ideal S1024x128 .f32) (v : FVec Ideal S1x1 .f32) (g : FVec Ideal S1x128 .f32) (r : Fin 512) (d : Fin 128) :
    k0_pay1 (F := Ideal) l a v g (ix3 0 r d) = normed (fun d => Ideal.div (a (ix2 (mapRow 0 r) d)) (l (ix2 (mapRow 0 r) 0))
      - (v (ix2 0 0) + Ideal.ofBits .f32 0x3E4CCCCD#32) * Ideal.div (a (ix2 (mapRow 1 r) d)) (l (ix2 (mapRow 1 r) 0))) (fun d => g (ix2 0 d)) d := by
  unfold normed
  rw [at0, at1]
  pointwise [k0_pay1]

/-- The row stored is the normalized difference of the two softmaxes' sums. -/
theorem stored_row (l : FVec Ideal S1024x1 .f32) (a : FVec Ideal S1024x128 .f32) (v : FVec Ideal S1x1 .f32) (g : FVec Ideal S1x128 .f32) (r : Fin 512) (d : Fin 128)
    (qi : Fin 4) (q : Fin 128 → ℝ) (K V : Fin 2048 → Fin 128 → ℝ) (sl lam : ℝ) (hv : v (ix2 0 0) + Ideal.ofBits .f32 0x3E4CCCCD#32 = (lam : EReal))
    (R : ∀ mp : Fin 2, ∃ M, Running (below (qi.val * 512 + (r.val + 1))) (blockScore q K sl qi mp) V M (l (ix2 (mapRow mp r) 0)) (fun d => a (ix2 (mapRow mp r) d))) :
    k0_pay1 (F := Ideal) l a v g (ix3 0 r d) = normed (fun d => ((diff q K V sl lam (key qi r) d : ℝ) : EReal)) (fun d => g (ix2 0 d)) d := by
  obtain ⟨M0, R0⟩ := R 0
  obtain ⟨M1, R1⟩ := R 1
  rw [stored, hv]
  congr 1
  funext d
  rw [Attend.quotient R0 d, Attend.quotient R1 d, ← EReal.coe_mul, ← EReal.coe_sub]
  rfl

end Cert.AttnIdeal.Block

end
-- ==== Proof.AttnBlock.lean ====
/-
  The attention call: what a grid point stores, which rows it reads and writes, and the result array after the run.
-/
module

public import proofs.«01_k».proof.Proof.AttnDiag
public import Idealize.ShloMosaic.Lib.StableHlo.RunRead

@[expose] public section

set_option maxRecDepth 16384

noncomputable section

namespace Cert.AttnIdeal.Block

open Cert.AttnIdeal Cert.AttnIdeal.Gen Idealize.ShloMosaic Idealize.ShloMosaic.TcCoe Idealize.SL.Sem
open Idealize.ShloMosaic.Pipeline (Dat)
open Cert.Softmax Cert.Attend

variable (m : (ℓ : Loc nD τ sig) → Buf (Elt Ideal) ℓ)

/-- Which rows a grid point reads and writes: batch `t / 32`, head `t / 4 % 8`, rows from `512 (t % 4)`. -/
theorem idx : ∀ t : Fin cfg0.N, win0_0.index t = ![0] ∧ win0_1.index t = ![t.val / 32, t.val % 4, t.val / 4 % 8]
    ∧ win0_2.index t = ![t.val / 32, 0, t.val / 4 % 8] ∧ win0_3.index t = ![t.val / 32, 0, t.val / 4 % 8] ∧ win0_4.index t = ![0, 0]
    ∧ win0_5.index t = ![0, 0] ∧ win0_6.index t = ![0, 0] ∧ win0_7.index t = ![0, 0] ∧ win0_8.index t = ![0, 0]
    ∧ win0_9.index t = ![t.val / 32, t.val % 4, t.val / 4 % 8] := (by decide +kernel : ∀ t : Fin grid0.N, _)

theorem coord : ∀ t : Fin cfg0.N, (grid0.coords t 1).val = t.val / 4 % 8 ∧ (grid0.coords t 2).val = t.val % 4 :=
  (by decide +kernel : ∀ t : Fin grid0.N, _)

/-- The batch, the head and the block of rows of the point. -/
def batch (t : Fin cfg0.N) : Fin 8 := ⟨t.val / 32, by have h : t.val < 256 := t.isLt; omega⟩
def head (t : Fin cfg0.N) : Fin 8 := ⟨t.val / 4 % 8, by omega⟩
def rows (t : Fin cfg0.N) : Fin 4 := ⟨t.val % 4, by omega⟩

theorem in0 (c : Dev nD) (t : Fin cfg0.N) (h : Fin 8) : iblk m c 0 t (ix1 h) = slope h := by
  have e : V m c main_v9 (ix1 h) = slope h := by
    unfold V
    after_reads_simp
    pointwise []
    unfold Attend.slope
    rw [head_word, word_one]
  rw [← e]
  blk_point [iblk, idx t]

theorem in4 (c : Dev nD) (t : Fin cfg0.N) : iblk m c 4 t = m ((c : Thread nD τ).loc main_arg3) := by
  funext i; blk_point [iblk, V, idx t]

theorem in5 (c : Dev nD) (t : Fin cfg0.N) : iblk m c 5 t = m ((c : Thread nD τ).loc main_arg4) := by
  funext i; blk_point [iblk, V, idx t]

theorem in6 (c : Dev nD) (t : Fin cfg0.N) : iblk m c 6 t = m ((c : Thread nD τ).loc main_arg5) := by
  funext i; blk_point [iblk, V, idx t]

theorem in7 (c : Dev nD) (t : Fin cfg0.N) : iblk m c 7 t = m ((c : Thread nD τ).loc main_arg6) := by
  funext i; blk_point [iblk, V, idx t]

theorem in8 (c : Dev nD) (t : Fin cfg0.N) : iblk m c 8 t = m ((c : Thread nD τ).loc main_arg7) := by
  funext i; blk_point [iblk, V, idx t]

theorem in1 (c : Dev nD) (t : Fin cfg0.N) (r : Fin 512) (d : Fin 128) :
    iblk m c 1 t (ix3 0 r d) = m ((c : Thread nD τ).loc main_arg0) (ix3 (batch t) (key (rows t) r) (headLane (head t) d)) := by
  unfold batch key rows headLane head
  blk_point [iblk, V, idx t]

theorem in2 (c : Dev nD) (t : Fin cfg0.N) (n : Fin 2048) (d : Fin 128) :
    iblk m c 2 t (ix3 0 n d) = m ((c : Thread nD τ).loc main_arg1) (ix3 (batch t) n (headLane (head t) d)) := by
  unfold batch headLane head
  blk_point [iblk, V, idx t]

theorem in3 (c : Dev nD) (t : Fin cfg0.N) (n : Fin 2048) (d : Fin 128) :
    iblk m c 3 t (ix3 0 n d) = m ((c : Thread nD τ).loc main_arg2) (ix3 (batch t) n (headLane (head t) d)) := by
  unfold batch headLane head
  blk_point [iblk, V, idx t]

theorem emb9 (t : Fin cfg0.N) (r : Fin 512) (d : Fin 128) :
    (win0_9.blk t).view.emb (ix3 0 r d) = ix3 (batch t) (key (rows t) r) (headLane (head t) d) := by
  funext a
  apply Fin.ext
  unfold batch key rows headLane head
  fin_cases a <;> blk_simp <;> simp [idx t]

theorem word_head : ∀ h : Fin 8, BitVec.toNat (Scalar.indexCast (BitVec.ofNat 32 h.val)) = h.val := by decide

theorem word_rows : ∀ q : Fin 4, BitVec.toNat (Scalar.indexCast (Scalar.muli (BitVec.ofNat 32 q.val) 512#32)) = q.val * 512 := by decide

/-- The cell of the slopes the point reads. -/
theorem cut0 (t : Fin cfg0.N) (h1 h2) : (Rect.unit (s := S8) (k0_off1 (grid0.coords t)) ![1] h1).emb (Shape.Idx.first h2) = ix1 (head t) := by
  funext a
  apply Fin.ext
  match a with
  | ⟨0, _⟩ =>
    show BitVec.toNat (Scalar.indexCast (BitVec.ofNat 32 (grid0.coords t 1).val)) + 1 * 0 = (head t).val
    rw [(coord t).1]
    exact word_head (head t)

/-- The row's own block of keys. -/
theorem cut4 (t : Fin cfg0.N) (h1) (n : Fin 512) (d : Fin 128) :
    (Rect.unit (s := S1x2048x128) (k0_off4 (grid0.coords t)) ![1, 512, 128] h1).emb (ix3 0 n d) = ix3 0 (key (rows t) n) d := by
  funext a
  apply Fin.ext
  match a with
  | ⟨0, _⟩ => rfl
  | ⟨1, _⟩ =>
    show BitVec.toNat (Scalar.indexCast (Scalar.muli (BitVec.ofNat 32 (grid0.coords t 2).val) 512#32)) + 1 * n.val = (rows t).val * 512 + n.val
    rw [(coord t).2]
    have := word_rows (rows t)
    change BitVec.toNat (Scalar.indexCast (Scalar.muli (BitVec.ofNat 32 (t.val % 4)) 512#32)) = (rows t).val * 512 at this
    omega
  | ⟨2, _⟩ => show 0 + 1 * d.val = d.val; omega

theorem iota_word (c : Fin 512) : iota .tc S1x512 32 [1] iota_S1x512_d1_w32 (ix2 0 c) = BitVec.ofNat 32 c.val := by
  pointwise []

theorem trips1 : ∀ q : Fin 4, Scf.trips 0#32 (Scalar.addi 0#32 (Scalar.muli (Scalar.divsi (Scalar.subi (BitVec.ofNat 32 q.val) 0#32) 1#32) 1#32)) 1#32
    = q.val := by decide

/-- The second loop has no trips. -/
theorem trips2 : ∀ q : Fin 4, Scf.trips (Scalar.addi 0#32 (Scalar.muli (Scalar.divsi (Scalar.subi (BitVec.ofNat 32 q.val) 0#32) 1#32) 1#32))
    (Scalar.addi 0#32 (Scalar.subi (BitVec.ofNat 32 q.val) 0#32)) 1#32 = 0 := by decide

/-- What a point stores. -/
theorem block (c : Dev nD) (t : Fin cfg0.N) (Q : Fin 512 → Fin 128 → ℝ) (K V : Fin 2048 → Fin 128 → ℝ) (sl lam : ℝ)
    (hQ : ∀ r d, iblk m c 1 t (ix3 0 r d) = (Q r d : EReal)) (hK : ∀ n d, iblk m c 2 t (ix3 0 n d) = (K n d : EReal))
    (hV : ∀ n d, iblk m c 3 t (ix3 0 n d) = (V n d : EReal)) (hsl : slope (head t) = (sl : EReal))
    (hlam : k0_pay26 (F := Ideal) (iblk m c 4 t) (iblk m c 5 t) (iblk m c 6 t) (iblk m c 7 t) (ix2 0 0) + Ideal.ofBits .f32 0x3E4CCCCD#32 = (lam : EReal))
    (r : Fin 512) (d : Fin 128) :
    outsAt0 m c t (ix3 0 r d) = normed (fun d => ((diff (Q r) K V sl lam (key (rows t) r) d : ℝ) : EReal)) (fun d => iblk m c 8 t (ix2 0 d)) d := by
  unfold outsAt0
  frame_out
  have e2 : (grid0.coords t 2).val = (rows t).val := (coord t).2
  simp only [e2, trips1, trips2, st_k0_t2_zero]
  refine stored_row _ _ _ _ r d (rows t) (Q r) K V sl lam hlam fun mp => ⟨_,
    last _ _ _ _ _ _ _ _ (rows t) Q K V sl ?_ iota_word hQ (fun n d => ?_) (fun n d => ?_) mp r ?_⟩
  · exact (congrArg (iblk m c 0 t) (cut0 t _ _)).trans ((in0 m c t (head t)).trans hsl)
  · exact (congrArg (iblk m c 2 t) (cut4 t _ n d)).trans (hK _ d)
  · exact (congrArg (iblk m c 3 t) (cut4 t _ n d)).trans (hV _ d)
  · exact loop c none (grid0.coords t) _ _ _ _ _ _ _ _ _ _ _ _ _ _ _ _ _ _ _ _ _ _ (iblk m c 2 t) (iblk m c 3 t) (rows t) e2 Q K V sl
      ((congrArg (iblk m c 0 t) (cut0 t _ _)).trans ((in0 m c t (head t)).trans hsl)) hQ hK hV mp r _ le_rfl _ rfl

/-- The result array after the run, where the queries, the keys, the values and the second map's weight are real. -/
theorem final (c : Dev nD) (Q K V : Fin 8 → Fin 2048 → Fin 1024 → ℝ) (sl : Fin 8 → ℝ) (lam : ℝ)
    (hQ : ∀ b s j, m ((c : Thread nD τ).loc main_arg0) (ix3 b s j) = (Q b s j : EReal))
    (hK : ∀ b s j, m ((c : Thread nD τ).loc main_arg1) (ix3 b s j) = (K b s j : EReal))
    (hV : ∀ b s j, m ((c : Thread nD τ).loc main_arg2) (ix3 b s j) = (V b s j : EReal)) (hsl : ∀ h, slope h = (sl h : EReal))
    (hlam : Attend.lam (fun x => m ((c : Thread nD τ).loc main_arg3) (ix2 0 x)) (fun x => m ((c : Thread nD τ).loc main_arg4) (ix2 0 x))
      (fun x => m ((c : Thread nD τ).loc main_arg5) (ix2 0 x)) (fun x => m ((c : Thread nD τ).loc main_arg6) (ix2 0 x)) = (lam : EReal)) :
    (dats m 0 c).arrAt 9 cfg0.N = fun i =>
      Attend.cell Q K V sl lam (fun d => m ((c : Thread nD τ).loc main_arg7) (ix2 0 d)) (i 0) (i 1) (i 2) := by
  refine (dats m 0 c).arrAt_eq_of_covers 9 _ (by decide +kernel) fun t _ y => ?_
  blk_simp
  rw [after0_9]
  obtain ⟨z, r, d, rfl⟩ : ∃ (z : Fin 1) (r : Fin 512) (d : Fin 128), y = ix3 z r d := ⟨y 0, y 1, y 2, eq_ix3 y⟩
  obtain rfl : z = 0 := Subsingleton.elim _ _
  rw [emb9]
  refine (block m c t (fun r d => Q (batch t) (key (rows t) r) (headLane (head t) d)) (fun n d => K (batch t) n (headLane (head t) d))
    (fun n d => V (batch t) n (headLane (head t) d)) (sl (head t)) lam (fun r d => (in1 m c t r d).trans (hQ _ _ _))
    (fun n d => (in2 m c t n d).trans (hK _ _ _)) (fun n d => (in3 m c t n d).trans (hV _ _ _)) (hsl _) ?_ r d).trans ?_
  · rw [in4, in5, in6, in7, lam_word]
    exact hlam
  · rw [in8]
    exact (Attend.cell_headLane Q K V sl lam _ (batch t) (key (rows t) r) (head t) d).symm

end Cert.AttnIdeal.Block

end
-- ==== Proof.AttnRef.lean ====
/-
  The attention call's reference, read at an index: the rows of `Attend`, with the softmaxes' weights divided first.
-/
module
public import proofs.«01_k».proof.Proof.Gen.AttnRefIdeal.Read
public import proofs.«01_k».proof.Proof.Attend
public import Idealize.ShloMosaic.Lib.Pointwise
@[expose] public section
set_option maxRecDepth 16384
noncomputable section
namespace Cert.AttnRefIdeal.Rows

open Cert.AttnRefIdeal Cert.AttnRefIdeal.Gen Cert.AttnRefIdeal.Read Idealize.ShloMosaic Idealize.ShloMosaic.TcCoe Idealize.SL.Sem
open Cert.Softmax Cert.Attend

variable (x0 x1 x2 : FVec Ideal S8x2048x1024 .bf16) (x3 x4 x5 x6 : FVec Ideal S1x64 .f32) (x7 : FVec Ideal S1x128 .f32)

theorem neg_inf : Ideal.ofBits .f32 0xFF800000#32 = ⊥ := by simp [Ideal.ofBits, Ideal.ieee]

theorem zero_word : Ideal.ofBits .f32 0x00000000#32 = 0 := by simp [Ideal.ofBits, Ideal.ieee]

/-- A sum over the one row is the sum over its lanes. -/
theorem sum_lanes (f : S1x64.Idx → EReal) : ∑ j : S1x64.Idx, f j = ∑ x : Fin 64, f (ix2 0 x) := by
  symm
  refine Finset.sum_bij (fun x _ => ix2 0 x) (fun _ _ => Finset.mem_univ _) ?_ ?_ (fun _ _ => rfl)
  · intro a _ b _ h
    exact congrFun h 1
  · intro j _
    refine ⟨j 1, Finset.mem_univ _, ?_⟩
    have e : (0 : Fin 1) = j 0 := Subsingleton.elim (α := Fin 1) _ _
    rw [e]
    exact (eq_ix2 j).symm

/-- The weight of the second map. -/
theorem lam_eq (i : S_.Idx) : val_main_v7 (F := Ideal) x3 x4 x5 x6 i
    = Attend.lam (fun x => x3 (ix2 0 x)) (fun x => x4 (ix2 0 x)) (fun x => x5 (ix2 0 x)) (fun x => x6 (ix2 0 x)) := by
  rw [val_main_v7_apply, val_main_v6_apply, val_main_v2_apply, val_main_v5_apply, val_main_v1_apply, val_main_v4_apply, val_main_cst_apply,
    val_main_cst_0_apply, val_main_cst_1_apply, sum_lanes, sum_lanes]
  show Ideal.exp (Ideal.ofBits .f32 0x00000000#32 + _) - Ideal.exp (Ideal.ofBits .f32 0x00000000#32 + _) + _ = _
  rw [zero_word, zero_add, zero_add]
  rfl

/-- The slope of a head. -/
theorem slope_eq (h : Fin 8) : val_main_v26 (F := Ideal) (ix1 h) = slope h := by
  rw [val_main_v26_apply, val_main_v25_apply, val_main_v24_apply, val_main_v23_apply, val_main_v22_apply, val_main_v21_apply, val_main_v20_apply,
    val_main_v19_apply, val_main_v18_apply, val_main_cst_5_apply, val_main_cst_4_apply, val_main_cst_3_apply, val_main_cst_2_apply]
  unfold Attend.slope
  rw [← head_word h]
  rfl

/-- The queries by head and map. -/
theorem v10 (b h : Fin 8) (mp : Fin 2) (s : Fin 2048) (e : Fin 64) :
    val_main_v10 (F := Ideal) x0 (ix5 b h mp s e) = x0 (ix3 b s (headLane h (lane mp e))) := by
  rw [val_main_v10_apply, val_main_v9_apply, val_main_v8_apply]
  refine congrArg x0 (funext fun a => Fin.ext ?_)
  unfold headLane lane
  match a with
  | ⟨0, _⟩ => show ((((b.val * 2048 + s.val) * 8 + h.val) * 2 + mp.val) * 64 + e.val) / 2097152 = b.val; omega
  | ⟨1, _⟩ => show ((((b.val * 2048 + s.val) * 8 + h.val) * 2 + mp.val) * 64 + e.val) / 1024 % 2048 = s.val; omega
  | ⟨2, _⟩ => show ((((b.val * 2048 + s.val) * 8 + h.val) * 2 + mp.val) * 64 + e.val) % 1024 = h.val * 128 + (mp.val * 64 + e.val); omega

/-- The keys by head and map. -/
theorem v13 (b h : Fin 8) (mp : Fin 2) (s : Fin 2048) (e : Fin 64) :
    val_main_v13 (F := Ideal) x1 (ix5 b h mp s e) = x1 (ix3 b s (headLane h (lane mp e))) := by
  rw [val_main_v13_apply, val_main_v12_apply, val_main_v11_apply]
  refine congrArg x1 (funext fun a => Fin.ext ?_)
  unfold headLane lane
  match a with
  | ⟨0, _⟩ => show ((((b.val * 2048 + s.val) * 8 + h.val) * 2 + mp.val) * 64 + e.val) / 2097152 = b.val; omega
  | ⟨1, _⟩ => show ((((b.val * 2048 + s.val) * 8 + h.val) * 2 + mp.val) * 64 + e.val) / 1024 % 2048 = s.val; omega
  | ⟨2, _⟩ => show ((((b.val * 2048 + s.val) * 8 + h.val) * 2 + mp.val) * 64 + e.val) % 1024 = h.val * 128 + (mp.val * 64 + e.val); omega

/-- The values by head. -/
theorem v16 (b h : Fin 8) (s : Fin 2048) (d : Fin 128) : val_main_v16 (F := Ideal) x2 (ix4 b h s d) = x2 (ix3 b s (headLane h d)) := by
  rw [val_main_v16_apply, val_main_v15_apply, val_main_v14_apply]
  refine congrArg x2 (funext fun a => Fin.ext ?_)
  unfold headLane
  match a with
  | ⟨0, _⟩ => show (((b.val * 2048 + s.val) * 8 + h.val) * 128 + d.val) / 2097152 = b.val; omega
  | ⟨1, _⟩ => show (((b.val * 2048 + s.val) * 8 + h.val) * 128 + d.val) / 1024 % 2048 = s.val; omega
  | ⟨2, _⟩ => show (((b.val * 2048 + s.val) * 8 + h.val) * 128 + d.val) % 1024 = h.val * 128 + d.val; omega

/-- The distance of a key from a row. -/
theorem dist (s k : Fin 2048) : val_main_v36 (F := Ideal) (ix2 s k) = (((s.val : ℝ) - (k.val : ℝ) : ℝ) : EReal) := by
  rw [val_main_v36_apply, val_main_v35_apply, val_main_v33_apply, val_main_v34_apply, val_main_v30_apply, val_main_v32_apply, val_main_v29_apply,
    val_main_v31_apply]
  show (((BitVec.toInt (BitVec.ofNat 32 s.val - BitVec.ofNat 32 k.val) : ℤ) : ℝ) : EReal) = _
  have e : BitVec.toInt (BitVec.ofNat 32 s.val - BitVec.ofNat 32 k.val) = (s.val : ℤ) - (k.val : ℤ) := by
    have hs := s.isLt
    have hk := k.isLt
    rw [BitVec.toInt_sub, BitVec.toInt_eq_toNat_cond, BitVec.toInt_eq_toNat_cond, BitVec.toNat_ofNat, BitVec.toNat_ofNat]
    simp only [Int.bmod]
    omega
  rw [e]
  push_cast
  rfl

/-- Keys after the row are masked. -/
theorem seen (b h : Fin 8) (mp : Fin 2) (s k : Fin 2048) :
    val_main_call0_v1 (F := Ideal) (ix5 b h mp s k) = if k ∈ below (s.val + 1) then 1#1 else 0#1 := by
  rw [val_main_call0_v1_apply, val_main_v38_apply, val_main_v37_apply, val_main_cst_6_apply]
  show Ideal.cmp .oge (val_main_v36 (F := Ideal) (ix2 s k)) (Ideal.ofBits .f32 0x00000000#32) = _
  rw [dist, zero_word]
  show BitVec.ofBool (decide ((0 : EReal) ≤ _)) = _
  have e : ((0 : EReal) ≤ (((s.val : ℝ) - (k.val : ℝ) : ℝ) : EReal)) ↔ k ∈ below (s.val + 1) := by
    rw [mem_below, EReal.coe_nonneg, sub_nonneg, Nat.cast_le, Nat.lt_succ_iff]
  by_cases h : k ∈ below (s.val + 1)
  · rw [if_pos h, decide_eq_true (e.mpr h)]
    rfl
  · rw [if_neg h, decide_eq_false (fun c => h (e.mp c))]
    rfl

/-- The bias. -/
theorem bias (b h : Fin 8) (mp : Fin 2) (s k : Fin 2048) :
    val_main_v44 (F := Ideal) (ix5 b h mp s k) = slope h * (((s.val : ℝ) - (k.val : ℝ) : ℝ) : EReal) := by
  rw [val_main_v44_apply, val_main_v43_apply, val_main_v42_apply, val_main_v40_apply, val_main_v27_apply, val_main_v41_apply, val_main_v39_apply]
  exact congrArg₂ (· * ·) (slope_eq h) (dist s k)

section

variable (Q K V : Fin 8 → Fin 2048 → Fin 1024 → ℝ) (sl : Fin 8 → ℝ) (lam : ℝ)

/-- The masked scores. -/
theorem scores (hQ : ∀ b s j, x0 (ix3 b s j) = (Q b s j : EReal)) (hK : ∀ b s j, x1 (ix3 b s j) = (K b s j : EReal)) (hsl : ∀ h, slope h = (sl h : EReal))
    (b h : Fin 8) (mp : Fin 2) (s k : Fin 2048) : val_main_v46 (F := Ideal) x0 x1 (ix5 b h mp s k) = if k ∈ below (s.val + 1) then
      ((score (fun d => Q b s (headLane h d)) (fun n d => K b n (headLane h d)) (sl h) s mp k : ℝ) : EReal) else ⊥ := by
  rw [val_main_v46_apply, seen, val_main_v45_apply, val_main_call0_v2_apply, val_main_call0_v0_apply, val_main_cst_7_apply, bias, hsl]
  have e : val_main_v28 (F := Ideal) x0 x1 (ix5 b h mp s k)
      = ((∑ e, Q b s (headLane h (lane mp e)) * K b k (headLane h (lane mp e)) : ℝ) : EReal) := by
    rw [val_main_v28_apply, coe_sum]
    refine Finset.sum_congr rfl fun x _ => ?_
    rw [EReal.coe_mul, ← hQ, ← hK, ← v10 x0, ← v13 x1]
    exact congrArg₂ (· * ·) (congrArg _ (funext fun a => by match a with | ⟨0, _⟩ => rfl | ⟨1, _⟩ => rfl | ⟨2, _⟩ => rfl | ⟨3, _⟩ => rfl | ⟨4, _⟩ => rfl))
      (congrArg _ (funext fun a => by match a with | ⟨0, _⟩ => rfl | ⟨1, _⟩ => rfl | ⟨2, _⟩ => rfl | ⟨3, _⟩ => rfl | ⟨4, _⟩ => rfl))
  rw [e]
  show Scalar.select _ ((_ : EReal) - _) (Ideal.ofBits .f32 0xFF800000#32) = _
  rw [neg_inf, ← EReal.coe_mul, ← EReal.coe_sub]
  split_ifs <;> rfl

/-- The largest score of a row. -/
theorem maxima (b h : Fin 8) (mp : Fin 2) (s : Fin 2048) : val_main_v49 (F := Ideal) x0 x1 (ix4 b h mp s)
    = Finset.univ.fold max ⊥ fun k => val_main_v46 (F := Ideal) x0 x1 (ix5 b h mp s k) := by
  have e : val_main_v47 (F := Ideal) x0 x1 (ix4 b h mp s) = Finset.univ.fold max ⊥ fun k => val_main_v46 (F := Ideal) x0 x1 (ix5 b h mp s k) := by
    unfold val_main_v47
    generalize val_main_v46 (F := Ideal) x0 x1 = y
    pointwise [val_main_cst_8]
    rw [neg_inf]
  rw [val_main_v49_apply, e, val_main_v48_apply, val_main_cst_9_apply]
  show max (Ideal.ofBits .f32 0xFF800000#32) _ = _
  rw [neg_inf, max_eq_right bot_le]

/-- The undivided weights. -/
theorem v53 (b h : Fin 8) (mp : Fin 2) (s k : Fin 2048) : val_main_v53 (F := Ideal) x0 x1 (ix5 b h mp s k)
    = Ideal.exp (val_main_v46 (F := Ideal) x0 x1 (ix5 b h mp s k) - val_main_v49 (F := Ideal) x0 x1 (ix4 b h mp s)) := by
  rw [val_main_v53_apply, val_main_v52_apply, val_main_v51_apply, val_main_v50_apply]
  have e : idx_main_v50 (idx_main_v51 (ix5 b h mp s k)) = ix4 b h mp s :=
    funext fun a => by match a with | ⟨0, _⟩ => rfl | ⟨1, _⟩ => rfl | ⟨2, _⟩ => rfl | ⟨3, _⟩ => rfl
  rw [e]
  rfl

/-- The total weight. -/
theorem v56 (b h : Fin 8) (mp : Fin 2) (s k : Fin 2048) : val_main_v56 (F := Ideal) x0 x1 (ix5 b h mp s k)
    = ∑ k, val_main_v53 (F := Ideal) x0 x1 (ix5 b h mp s k) := by
  rw [val_main_v56_apply, val_main_v55_apply, val_main_v54_apply, val_main_cst_10_apply]
  refine (congrArg (· + _) zero_word).trans ((zero_add _).trans (Finset.sum_congr rfl fun k _ => ?_))
  exact congrArg _ (funext fun a => by match a with | ⟨0, _⟩ => rfl | ⟨1, _⟩ => rfl | ⟨2, _⟩ => rfl | ⟨3, _⟩ => rfl | ⟨4, _⟩ => rfl)

/-- The softmax's weights. -/
theorem weights (hQ : ∀ b s j, x0 (ix3 b s j) = (Q b s j : EReal)) (hK : ∀ b s j, x1 (ix3 b s j) = (K b s j : EReal)) (hsl : ∀ h, slope h = (sl h : EReal))
    (b h : Fin 8) (mp : Fin 2) (s k : Fin 2048) : val_main_v57 (F := Ideal) x0 x1 (ix5 b h mp s k)
      = ((if k ∈ below (s.val + 1) then Real.exp (score (fun d => Q b s (headLane h d)) (fun n d => K b n (headLane h d)) (sl h) s mp k)
        / ∑ j ∈ below (s.val + 1), Real.exp (score (fun d => Q b s (headLane h d)) (fun n d => K b n (headLane h d)) (sl h) s mp j) else 0 : ℝ) : EReal) := by
  rw [val_main_v57_apply, v56]
  simp only [v53]
  exact weight ⟨s, (mem_below _ _).mpr (Nat.lt_succ_self _)⟩ _ (fun k => val_main_v46 (F := Ideal) x0 x1 (ix5 b h mp s k))
    (fun k => scores x0 x1 Q K sl hQ hK hsl b h mp s k) _ (maxima x0 x1 b h mp s) k

/-- The two maps' weights. -/
theorem v64 (b h : Fin 8) (s k : Fin 2048) : val_main_v64 (F := Ideal) x0 x1 x3 x4 x5 x6 (ix4 b h s k)
    = val_main_v57 (F := Ideal) x0 x1 (ix5 b h 0 s k)
      - Attend.lam (fun x => x3 (ix2 0 x)) (fun x => x4 (ix2 0 x)) (fun x => x5 (ix2 0 x)) (fun x => x6 (ix2 0 x))
        * val_main_v57 (F := Ideal) x0 x1 (ix5 b h 1 s k) := by
  have e0 : idx_main_v58 (idx_main_v59 (ix4 b h s k)) = ix5 b h 0 s k := funext fun a => Fin.ext (by
    match a with
    | ⟨0, _⟩ => show (((b.val * 8 + h.val) * 2048 + s.val) * 2048 + k.val) / 33554432 = b.val; omega
    | ⟨1, _⟩ => show (((b.val * 8 + h.val) * 2048 + s.val) * 2048 + k.val) / 4194304 % 8 = h.val; omega
    | ⟨2, _⟩ => rfl
    | ⟨3, _⟩ => show (((b.val * 8 + h.val) * 2048 + s.val) * 2048 + k.val) / 2048 % 2048 = s.val; omega
    | ⟨4, _⟩ => show (((b.val * 8 + h.val) * 2048 + s.val) * 2048 + k.val) % 2048 = k.val; omega)
  have e1 : idx_main_v60 (idx_main_v61 (ix4 b h s k)) = ix5 b h 1 s k := funext fun a => Fin.ext (by
    match a with
    | ⟨0, _⟩ => show (((b.val * 8 + h.val) * 2048 + s.val) * 2048 + k.val) / 33554432 = b.val; omega
    | ⟨1, _⟩ => show (((b.val * 8 + h.val) * 2048 + s.val) * 2048 + k.val) / 4194304 % 8 = h.val; omega
    | ⟨2, _⟩ => rfl
    | ⟨3, _⟩ => show (((b.val * 8 + h.val) * 2048 + s.val) * 2048 + k.val) / 2048 % 2048 = s.val; omega
    | ⟨4, _⟩ => show (((b.val * 8 + h.val) * 2048 + s.val) * 2048 + k.val) % 2048 = k.val; omega)
  rw [val_main_v64_apply, val_main_v63_apply, val_main_v62_apply, lam_eq, val_main_v59_apply, val_main_v58_apply, val_main_v61_apply,
    val_main_v60_apply, e0, e1]
  generalize val_main_v57 (F := Ideal) x0 x1 = y
  rfl

/-- The weighted sum of the values. -/
theorem v65 (hQ : ∀ b s j, x0 (ix3 b s j) = (Q b s j : EReal)) (hK : ∀ b s j, x1 (ix3 b s j) = (K b s j : EReal))
    (hV : ∀ b s j, x2 (ix3 b s j) = (V b s j : EReal)) (hsl : ∀ h, slope h = (sl h : EReal))
    (hlam : Attend.lam (fun x => x3 (ix2 0 x)) (fun x => x4 (ix2 0 x)) (fun x => x5 (ix2 0 x)) (fun x => x6 (ix2 0 x)) = (lam : EReal))
    (b h : Fin 8) (s : Fin 2048) (d : Fin 128) : val_main_v65 (F := Ideal) x0 x1 x2 x3 x4 x5 x6 (ix4 b h s d)
      = ((diff (fun d => Q b s (headLane h d)) (fun n d => K b n (headLane h d)) (fun n d => V b n (headLane h d)) (sl h) lam s d : ℝ) : EReal) := by
  rw [val_main_v65_apply]
  refine Eq.trans (Finset.sum_congr rfl fun k _ => ?_) (sum_diff (below (s.val + 1))
    (score (fun d => Q b s (headLane h d)) (fun n d => K b n (headLane h d)) (sl h) s 0)
    (score (fun d => Q b s (headLane h d)) (fun n d => K b n (headLane h d)) (sl h) s 1) lam (fun n d => V b n (headLane h d)) d)
  have eR : ridx_main_v65 (ix4 b h s d) k = ix4 b h k d :=
    funext fun a => by match a with | ⟨0, _⟩ => rfl | ⟨1, _⟩ => rfl | ⟨2, _⟩ => rfl | ⟨3, _⟩ => rfl
  have eL : lidx_main_v65 (ix4 b h s d) k = ix4 b h s k :=
    funext fun a => by match a with | ⟨0, _⟩ => rfl | ⟨1, _⟩ => rfl | ⟨2, _⟩ => rfl | ⟨3, _⟩ => rfl
  rw [eR, eL, v16, hV, v64, hlam, weights x0 x1 Q K sl hQ hK hsl, weights x0 x1 Q K sl hQ hK hsl]

end

/-- A quotient by the lanes' number, its sum taken from the zero word. -/
theorem div_word (y : EReal) : FloatOps.hostDivf (F := Ideal) (φ := .f32) (FloatOps.ofBits (F := Ideal) .f32 0x00000000#32 + y)
    (FloatOps.ofBits (F := Ideal) .f32 0x43000000#32) = Ideal.div y (Ideal.ofBits .f32 0x43000000#32) := by
  show Ideal.div (Ideal.ofBits .f32 0x00000000#32 + y) _ = _
  rw [zero_word, zero_add]
  rfl

/-- The sum of a row's squares. -/
theorem v68 (b h : Fin 8) (s : Fin 2048) : val_main_v68 (F := Ideal) x0 x1 x2 x3 x4 x5 x6 (ix4 b h s 0)
    = FloatOps.ofBits (F := Ideal) .f32 0x00000000#32
      + ∑ e, val_main_v65 (F := Ideal) x0 x1 x2 x3 x4 x5 x6 (ix4 b h s e) * val_main_v65 (F := Ideal) x0 x1 x2 x3 x4 x5 x6 (ix4 b h s e) := by
  have es : ∀ k, idx_main_v67 (idx_main_v68 (ix4 b h s 0)) k = ix4 b h s k := fun k =>
    funext fun a => by match a with | ⟨0, _⟩ => rfl | ⟨1, _⟩ => rfl | ⟨2, _⟩ => rfl | ⟨3, _⟩ => rfl
  have em : ∀ i, val_main_v66 (F := Ideal) x0 x1 x2 x3 x4 x5 x6 i
      = val_main_v65 (F := Ideal) x0 x1 x2 x3 x4 x5 x6 i * val_main_v65 (F := Ideal) x0 x1 x2 x3 x4 x5 x6 i := fun i => by
    rw [val_main_v66_apply]
    generalize val_main_v65 (F := Ideal) x0 x1 x2 x3 x4 x5 x6 i = y
    rfl
  rw [val_main_v68_apply, val_main_v67_apply, val_main_cst_11_apply]
  simp only [es, em]

/-- The mean square of a row. -/
theorem v70 (b h : Fin 8) (s : Fin 2048) : val_main_v70 (F := Ideal) x0 x1 x2 x3 x4 x5 x6 (ix4 b h s 0)
    = Ideal.div (∑ e, val_main_v65 (F := Ideal) x0 x1 x2 x3 x4 x5 x6 (ix4 b h s e) * val_main_v65 (F := Ideal) x0 x1 x2 x3 x4 x5 x6 (ix4 b h s e))
      (Ideal.ofBits .f32 0x43000000#32) := by
  rw [val_main_v70_apply, val_main_v69_apply, val_main_cst_12_apply, v68, div_word]

/-- The rows normalized. -/
theorem v80 (b h : Fin 8) (s : Fin 2048) (d : Fin 128) : val_main_v80 (F := Ideal) x0 x1 x2 x3 x4 x5 x6 x7 (ix4 b h s d)
    = normed (fun d => val_main_v65 (F := Ideal) x0 x1 x2 x3 x4 x5 x6 (ix4 b h s d)) (fun d => x7 (ix2 0 d)) d := by
  rw [val_main_v80_apply, val_main_v79_apply, val_main_cst_14_apply, val_main_v78_apply, val_main_v77_apply, val_main_v76_apply, val_main_v75_apply,
    val_main_v74_apply, val_main_v73_apply, val_main_v72_apply, val_main_v71_apply, val_main_cst_13_apply]
  have eg : idx_main_v76 (idx_main_v77 (ix4 b h s d)) = ix2 0 d := funext fun a => by match a with | ⟨0, _⟩ => rfl | ⟨1, _⟩ => rfl
  have es : idx_main_v74 (ix4 b h s d) = ix4 b h s 0 :=
    funext fun a => by match a with | ⟨0, _⟩ => rfl | ⟨1, _⟩ => rfl | ⟨2, _⟩ => rfl | ⟨3, _⟩ => rfl
  rw [eg, es, v70]
  generalize val_main_v65 (F := Ideal) x0 x1 x2 x3 x4 x5 x6 = y
  rfl

/-- The result's rows, with the heads side by side. -/
theorem normed_eq (b : Fin 8) (s : Fin 2048) (h : Fin 8) (d : Fin 128) : val_main_v83 (F := Ideal) x0 x1 x2 x3 x4 x5 x6 x7 (ix3 b s (headLane h d))
    = normed (fun d => val_main_v65 (F := Ideal) x0 x1 x2 x3 x4 x5 x6 (ix4 b h s d)) (fun d => x7 (ix2 0 d)) d := by
  rw [val_main_v83_apply, val_main_v82_apply, val_main_v81_apply]
  have e : idx_main_v81 (idx_main_v82 (ix3 b s (headLane h d))) = ix4 b h s d := funext fun a => Fin.ext (by
    unfold headLane
    match a with
    | ⟨0, _⟩ => show ((b.val * 2048 + s.val) * 1024 + (h.val * 128 + d.val)) / 2097152 = b.val; omega
    | ⟨1, _⟩ => show ((b.val * 2048 + s.val) * 1024 + (h.val * 128 + d.val)) / 128 % 8 = h.val; omega
    | ⟨2, _⟩ => show ((b.val * 2048 + s.val) * 1024 + (h.val * 128 + d.val)) / 1024 % 2048 = s.val; omega
    | ⟨3, _⟩ => show ((b.val * 2048 + s.val) * 1024 + (h.val * 128 + d.val)) % 128 = d.val; omega)
  rw [e]
  exact v80 x0 x1 x2 x3 x4 x5 x6 x7 b h s d

/-- The reference's result, where the queries, the keys, the values and the second map's weight are real. -/
theorem reads (Q K V : Fin 8 → Fin 2048 → Fin 1024 → ℝ) (sl : Fin 8 → ℝ) (lam : ℝ)
    (hQ : ∀ b s j, x0 (ix3 b s j) = (Q b s j : EReal)) (hK : ∀ b s j, x1 (ix3 b s j) = (K b s j : EReal))
    (hV : ∀ b s j, x2 (ix3 b s j) = (V b s j : EReal)) (hsl : ∀ h, slope h = (sl h : EReal))
    (hlam : Attend.lam (fun x => x3 (ix2 0 x)) (fun x => x4 (ix2 0 x)) (fun x => x5 (ix2 0 x)) (fun x => x6 (ix2 0 x)) = (lam : EReal))
    (b : Fin 8) (s : Fin 2048) (j : Fin 1024) : val_main_v83 (F := Ideal) x0 x1 x2 x3 x4 x5 x6 x7 (ix3 b s j)
      = Attend.cell Q K V sl lam (fun d => x7 (ix2 0 d)) b s j := by
  obtain ⟨h, d, rfl⟩ := exists_headLane j
  rw [cell_headLane, normed_eq]
  simp only [v65 x0 x1 x2 x3 x4 x5 x6 Q K V sl lam hQ hK hV hsl hlam]
  rfl

end Cert.AttnRefIdeal.Rows

end
-- ==== Proof.Finite.lean ====
/-
  What the preconditions say: an array every entry of which lies below infinity in size is an array of real numbers.
-/
module

public import Idealize.ShloMosaic.Lib.StableHlo
public import Idealize.ShloMosaic.Lib.Pointwise
public import Idealize.ShloMosaic.PureOps

@[expose] public section

noncomputable section

namespace Cert.Finite

open Idealize.ShloMosaic

/-- The word of infinity. -/
theorem inf_word : Ideal.ofBits .f32 0x7F800000#32 = ⊤ := by simp [Ideal.ofBits, Ideal.ieee]

/-- A number whose size lies below infinity is real. -/
theorem real (x : EReal) (h : max x (-x) < ⊤) : ∃ r : ℝ, x = r := by
  induction x with
  | bot => simp at h
  | top => simp at h
  | coe r => exact ⟨r, rfl⟩

/-- An array that the test passes holds real numbers. -/
theorem entries {s : Shape} (dims : Fin 0 → Fin s.rank) (hb : (⟨0, ![]⟩ : Shape).BroadcastsInDim s dims) (x : FVec Ideal s .f32)
    (h : cmpf .olt (Host.absf x) (broadcastInDim s dims hb (constant (F := Ideal) ⟨0, ![]⟩ .f32 0x7F800000#32)) = fun _ => 1#1) (i : s.Idx) :
    ∃ r : ℝ, x i = r := by
  have e := congrFun h i
  have e' : Ideal.cmp .olt (max (x i) (-(x i))) (Ideal.ofBits .f32 0x7F800000#32) = 1#1 := e
  rw [inf_word] at e'
  apply real
  by_contra hn
  simp [Ideal.cmp, hn] at e'

end Cert.Finite

end
-- ==== Proof.AttnClaims.lean ====
/-
  The claims about the attention call: its reference's frame, and that it and its reference end with the same result where
  the queries, the keys, the values and the second map's vectors are finite.
-/
module

public import proofs.«01_k».proof.Defs
public import proofs.«01_k».proof.Proof.AttnBlock
public import proofs.«01_k».proof.Proof.AttnRef
public import proofs.«01_k».proof.Proof.Finite
public import proofs.«01_k».proof.Proof.Gen.Attn.Frame
public import proofs.«01_k».proof.Proof.Gen.Pre_finite_attention
public import Idealize.ShloMosaic.Lib.Quiescent

@[expose] public section

set_option maxRecDepth 16384

noncomputable section

namespace Cert.AttnClaims

open Idealize.ShloMosaic Idealize.SL.Sem

/-- The reference leaves its arguments and every counter as they were. -/
theorem frame_ref : Cert.quiescent_AttnRefIdeal (hAttnRefIdeal := Cert.AttnRefIdeal.Gen.facts) := fun m ρ _ =>
  (θ_run _ _ _).mono (fun r h => ⟨fun c => (h c).2, sem_eq_zero_of_no_sems (by decide) r.2⟩) (Cert.AttnRefIdeal.Value.run m ρ)

/-- Real arrays behind an array of three axes. -/
theorem reals3 (x : Fin 8 → Fin 2048 → Fin 1024 → EReal) (h : ∀ b s j, ∃ r : ℝ, x b s j = r) :
    ∃ f : Fin 8 → Fin 2048 → Fin 1024 → ℝ, ∀ b s j, x b s j = f b s j := by
  choose f hf using h
  exact ⟨f, hf⟩

/-- The second map's weight is real where its vectors are. -/
theorem lam_finite (a b c d : Fin 64 → EReal) (ha : ∀ x, ∃ r : ℝ, a x = r) (hb : ∀ x, ∃ r : ℝ, b x = r) (hc : ∀ x, ∃ r : ℝ, c x = r)
    (hd : ∀ x, ∃ r : ℝ, d x = r) : ∃ l : ℝ, Attend.lam a b c d = l := by
  choose a' ha using ha
  choose b' hb using hb
  choose c' hc using hc
  choose d' hd using hd
  obtain rfl : a = fun x => (a' x : EReal) := funext ha
  obtain rfl : b = fun x => (b' x : EReal) := funext hb
  obtain rfl : c = fun x => (c' x : EReal) := funext hc
  obtain rfl : d = fun x => (d' x : EReal) := funext hd
  exact Attend.lam_real a' b' c' d'

/-- The call and the reference end with equal results. -/
theorem algebraic : Cert.algebraic_AttnIdeal_AttnRefIdeal_pre_finite_attention (hAttnIdeal := Cert.AttnIdeal.Gen.facts)
    (hAttnRefIdeal := Cert.AttnRefIdeal.Gen.facts) (hPre_finite_attention := Cert.Pre_finite_attention.Gen.facts) := by
  intro m g m' g' hpre hm
  refine ⟨fun c => Cert.AttnRefIdeal.Value.res_main_v83 m' c, ?_, ?_⟩
  · refine (θ_run _ _ _).mono (fun r h c => ⟨(h c).1.trans ?_, (h c).2⟩) (Cert.AttnIdeal.Value.run_blocks m g)
    obtain ⟨h0, h1, h2, h3, h4, h5, h6, h7⟩ := hm c
    obtain ⟨p0, p1, p2, p3, p4, p5, p6⟩ := hpre c
    obtain ⟨Q, hQ⟩ := reals3 _ fun b s j => Cert.Finite.entries _ _ _ p0 (ix3 b s j)
    obtain ⟨K, hK⟩ := reals3 _ fun b s j => Cert.Finite.entries _ _ _ p1 (ix3 b s j)
    obtain ⟨V, hV⟩ := reals3 _ fun b s j => Cert.Finite.entries _ _ _ p2 (ix3 b s j)
    obtain ⟨l, hl⟩ := lam_finite _ _ _ _ (fun x => Cert.Finite.entries _ _ _ p3 (ix2 0 x)) (fun x => Cert.Finite.entries _ _ _ p4 (ix2 0 x))
      (fun x => Cert.Finite.entries _ _ _ p5 (ix2 0 x)) (fun x => Cert.Finite.entries _ _ _ p6 (ix2 0 x))
    choose sl hsl using Attend.slope_real
    show _ = Cert.AttnRefIdeal.Value.res_main_v83 m' c
    rw [Cert.AttnRefIdeal.Read.val_main_v83_eq, h0, h1, h2, h3, h4, h5, h6, h7, Cert.AttnIdeal.Block.final m c Q K V sl l hQ hK hV hsl hl]
    funext i
    obtain ⟨b, r, j, rfl⟩ : ∃ (b : Fin 8) (r : Fin 2048) (j : Fin 1024), i = ix3 b r j := ⟨i 0, i 1, i 2, eq_ix3 i⟩
    exact (Cert.AttnRefIdeal.Rows.reads _ _ _ _ _ _ _ _ Q K V sl l hQ hK hV hsl hl b r j).symm
  · exact (θ_run _ _ _).mono (fun r h c => h c) (Cert.AttnRefIdeal.Value.run m' g')

end Cert.AttnClaims

end
-- ==== Proof.Rows.lean ====
/-
  What the layer's calls compute row by row, over the extended reals and for any number of rows: a matrix product, the
  root-mean-square normalization of a row, and the feed-forward block of a row. A block of rows and the whole array are
  both instances, and a row's result depends on that row alone.
-/
module

public import Idealize.ShloMosaic.Lib.Pointwise

@[expose] public section

noncomputable section

namespace Cert.Rows

open Idealize.ShloMosaic

/-- A matrix of `R` rows and `C` columns over the extended reals. -/
abbrev Mat (R C : ℕ) : Type := (⟨2, ![R, C]⟩ : Shape).Idx → EReal

/-- The matrix product at row `r`, column `j`. -/
def dot {R K C : ℕ} (x : Mat R K) (w : Mat K C) (r : Fin R) (j : Fin C) : EReal := ∑ k : Fin K, x (ix2 r k) * w (ix2 k j)

/-- The root-mean-square normalization over 1024 columns, times the weight `g`: `x / sqrt (mean x² + ε) · g`. -/
def norm {R : ℕ} (x : Mat R 1024) (g : Mat 1 1024) : Mat R 1024 := fun i =>
  x i * Ideal.rsqrt (Ideal.div (∑ k : Fin 1024, x (ix2 (i 0) k) * x (ix2 (i 0) k)) (Ideal.ofBits .f32 0x44800000#32)
    + Ideal.ofBits .f32 0x358637BD#32) * g (ix2 0 (i 1))

/-- The gated hidden layer of the feed-forward block: `silu (h · wg) · (h · wu)`. -/
def gated {R : ℕ} (h : Mat R 1024) (wg wu : Mat 1024 2816) : Mat R 2816 := fun i =>
  dot h wg (i 0) (i 1) * Ideal.logistic (dot h wg (i 0) (i 1)) * dot h wu (i 0) (i 1)

/-- A matrix product as a matrix. -/
def mul {R K C : ℕ} (x : Mat R K) (w : Mat K C) : Mat R C := fun i => dot x w (i 0) (i 1)

/-- The feed-forward block with its two normalizations and half of its result added to the row. -/
def ffn {R : ℕ} (x : Mat R 1024) (g₁ : Mat 1 1024) (wg wu : Mat 1024 2816) (wd : Mat 2816 1024) (g₂ : Mat 1 1024) : Mat R 1024 :=
  fun i => x i + Ideal.ofBits .f32 0x3F000000#32 * norm (mul (gated (norm x g₁) wg wu) wd) g₂ i

/-- The `D` columns from `off`. -/
def cols {R C D : ℕ} (off : ℕ) (h : off + D ≤ C) (x : Mat R C) : Mat R D := fun i =>
  x (ix2 (i 0) ⟨off + (i 1).val, Nat.lt_of_lt_of_le (Nat.add_lt_add_left (i 1).isLt off) h⟩)

/-- A matrix times a constant, given by its word. -/
def scaled {R C : ℕ} (w : BitVec 32) (x : Mat R C) : Mat R C := fun i => x i * Ideal.ofBits .f32 w

/-- The branch gates: `logistic (norm x · w + b)`. -/
def gates {R : ℕ} (x : Mat R 1024) (g : Mat 1 1024) (w : Mat 1024 3072) (b : Mat 1 3072) : Mat R 3072 := fun i =>
  Ideal.logistic (dot (norm x g) w (i 0) (i 1) + b (ix2 0 (i 1)))

variable {R S : ℕ}

theorem dot_congr {K C : ℕ} {x : Mat R K} {y : Mat S K} {r : Fin R} {s : Fin S} (h : ∀ k, x (ix2 r k) = y (ix2 s k)) (w : Mat K C)
    (j : Fin C) : dot x w r j = dot y w s j := by
  unfold dot; simp only [h]

theorem mul_congr {K C : ℕ} {x : Mat R K} {y : Mat S K} {r : Fin R} {s : Fin S} (h : ∀ k, x (ix2 r k) = y (ix2 s k)) (w : Mat K C)
    (j : Fin C) : mul x w (ix2 r j) = mul y w (ix2 s j) := dot_congr h w j

theorem norm_congr {x : Mat R 1024} {y : Mat S 1024} {r : Fin R} {s : Fin S} (h : ∀ k, x (ix2 r k) = y (ix2 s k)) (g : Mat 1 1024)
    (j : Fin 1024) : norm x g (ix2 r j) = norm y g (ix2 s j) := by
  show x (ix2 r j) * Ideal.rsqrt (Ideal.div (∑ k, x (ix2 r k) * x (ix2 r k)) _ + _) * g (ix2 0 j)
    = y (ix2 s j) * Ideal.rsqrt (Ideal.div (∑ k, y (ix2 s k) * y (ix2 s k)) _ + _) * g (ix2 0 j)
  simp only [h]

theorem gated_congr {x : Mat R 1024} {y : Mat S 1024} {r : Fin R} {s : Fin S} (h : ∀ k, x (ix2 r k) = y (ix2 s k))
    (wg wu : Mat 1024 2816) (j : Fin 2816) : gated x wg wu (ix2 r j) = gated y wg wu (ix2 s j) := by
  show dot x wg r j * Ideal.logistic (dot x wg r j) * dot x wu r j = dot y wg s j * Ideal.logistic (dot y wg s j) * dot y wu s j
  rw [dot_congr h, dot_congr h]

/-- A row of the feed-forward block's result is a function of that row. -/
theorem ffn_congr {x : Mat R 1024} {y : Mat S 1024} {r : Fin R} {s : Fin S} (h : ∀ k, x (ix2 r k) = y (ix2 s k))
    (g₁ : Mat 1 1024) (wg wu : Mat 1024 2816) (wd : Mat 2816 1024) (g₂ : Mat 1 1024) (j : Fin 1024) :
    ffn x g₁ wg wu wd g₂ (ix2 r j) = ffn y g₁ wg wu wd g₂ (ix2 s j) := by
  unfold ffn
  rw [h, norm_congr (s := s) fun k => mul_congr (fun l => gated_congr (norm_congr h g₁) wg wu l) wd k]

/-- A row of a projection of the normalized rows is a function of that row. -/
theorem proj_congr {K : ℕ} {x : Mat R 1024} {y : Mat S 1024} {r : Fin R} {s : Fin S} (h : ∀ k, x (ix2 r k) = y (ix2 s k))
    (g : Mat 1 1024) (w : Mat 1024 K) (j : Fin K) : mul (norm x g) w (ix2 r j) = mul (norm y g) w (ix2 s j) :=
  mul_congr (norm_congr h g) w j

/-- A row of the gates is a function of that row. -/
theorem gates_congr {x : Mat R 1024} {y : Mat S 1024} {r : Fin R} {s : Fin S} (h : ∀ k, x (ix2 r k) = y (ix2 s k))
    (g : Mat 1 1024) (w : Mat 1024 3072) (b : Mat 1 3072) (j : Fin 3072) : gates x g w b (ix2 r j) = gates y g w b (ix2 s j) := by
  show Ideal.logistic (dot (norm x g) w r j + b (ix2 0 j)) = Ideal.logistic (dot (norm y g) w s j + b (ix2 0 j))
  rw [dot_congr (norm_congr h g)]

end Cert.Rows

end
-- ==== Proof.FfnBlock.lean ====
/-
  What one grid point of the feed-forward call writes: the block's rows of the feed-forward block (`Rows.ffn`) over the
  point's 512 rows. The kernel fills its hidden layer 256 columns at a time; the eleven pieces together are the gated
  hidden layer.
-/
module

public import proofs.«01_k».proof.Proof.Gen.FfnIdeal.Value
public import proofs.«01_k».proof.Proof.Rows
public import Idealize.ShloMosaic.Lib.Pipeline.ValueKit
public import Idealize.ShloMosaic.Lib.Pipeline.ReadBack

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The gated hidden layer over a block of 512 normalized rows. -/
def hidden (h : FVec Ideal S512x1024 .bf16) (wg wu : FVec Ideal S1024x2816 .bf16) : FVec Ideal S512x2816 .bf16 := Rows.gated h wg wu

/-- The 256 columns from `off` that one slice of the two weight matrices gives are those columns of the hidden layer. -/
theorem hidden_piece (off : ℕ) (h : FVec Ideal S512x1024 .bf16) (wg wu : FVec Ideal S1024x2816 .bf16)
    (inb : ∀ a, (![0, off] : Fin 2 → ℕ) a + (![1024, 256] : Fin 2 → ℕ) a ≤ S1024x2816.size a)
    (inb' : ∀ a, (![0, off] : Fin 2 → ℕ) a + (![512, 256] : Fin 2 → ℕ) a ≤ S512x2816.size a) (x : S512x256.Idx) :
    k0_pay7 h (View.ld wg (Rect.unit (s := S1024x2816) ![0, off] ![1024, 256] inb))
        (View.ld wu (Rect.unit (s := S1024x2816) ![0, off] ![1024, 256] inb)) x
      = hidden h wg wu ((Rect.unit (s := S512x2816) ![0, off] ![512, 256] inb').emb x) := by
  have e0 : ((Rect.unit (s := S512x2816) ![0, off] ![512, 256] inb').emb x 0) = x 0 := Fin.ext (by show 0 + 1 * (x 0).val = (x 0).val; omega)
  have e1 : ((Rect.unit (s := S512x2816) ![0, off] ![512, 256] inb').emb x 1) = ⟨off + (x 1).val, by have := inb 1; have := (x 1).isLt; simp at *; omega⟩ :=
    Fin.ext (by show off + 1 * (x 1).val = _; simp)
  pointwise [k0_pay7, hidden, Rows.gated, Rows.dot]
  rw [e0, e1]
  rfl

/-- The block's rows, by the words of the program. -/
theorem block (c : Dev nD) (t : Fin cfg0.N) : outsAt0 m c t
    = k0_pay2 (iblk m c 0 t) (hidden (k0_pay3 (iblk m c 0 t) (iblk m c 1 t)) (iblk m c 2 t) (iblk m c 3 t)) (iblk m c 4 t) (iblk m c 5 t) := by
  unfold outsAt0
  frame_out
  congr 1
  rw [View.readCov_eq_canon']
  funext z
  have ez : (Rect.unit (s := S512x2816) ![0, 0] ![512, 2816] inb_S512x2816_S512x2816_0_0).toLoadRect.idx z = z := by
    funext a; apply Fin.ext; match a with
    | ⟨0, _⟩ => show 0 + 1 * (z 0).val = _; simp
    | ⟨1, _⟩ => show 0 + 1 * (z 1).val = _; simp
  rw [ez]
  generalize (iblk m c 0 t) = x0
  generalize (iblk m c 1 t) = x1
  generalize (iblk m c 2 t) = x2
  generalize (iblk m c 3 t) = x3
  refine View.canon_append_of_piecesOf (Val := Elt Ideal) (e := .bf16) (hidden (k0_pay3 x0 x1) x2 x3) [] [_, _, _, _, _, _, _, _, _, _, _]
    ⟨?_, ?_, ?_, ?_, ?_, ?_, ?_, ?_, ?_, ?_, ?_, trivial⟩ _ ?_
  case refine_12 => exact View.cover_of_tiledL _ ![512, 256] (by sl_kernel_rfl) z
  all_goals exact hidden_piece _ (k0_pay3 x0 x1) x2 x3 _ (by decide)

/-- The payloads over the block are the feed-forward block of its rows. -/
theorem pay_eq (x : FVec Ideal S512x1024 .f32) (g₁ : FVec Ideal S1x1024 .f32) (wg wu : FVec Ideal S1024x2816 .bf16)
    (wd : FVec Ideal S2816x1024 .bf16) (g₂ : FVec Ideal S1x1024 .f32) (r : Fin 512) (j : Fin 1024) :
    k0_pay2 (F := Ideal) x (hidden (k0_pay3 x g₁) wg wu) wd g₂ (ix2 r j) = Rows.ffn x g₁ wg wu wd g₂ (ix2 r j) := by
  have e : k0_pay3 (F := Ideal) x g₁ = Rows.norm x g₁ := by
    funext i
    rw [eq_ix2 i]
    pointwise [k0_pay3, Rows.norm]
  rw [e]
  pointwise [k0_pay2, hidden, Rows.ffn, Rows.norm, Rows.mul, Rows.dot]

/-- Which rows a grid point reads and writes; the weights are read whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The result array after the run: the feed-forward block of every row. -/
theorem final (c : Dev nD) : (dats m 0 c).arrAt 6 cfg0.N
    = Rows.ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, block]
  obtain ⟨i0, i1, i2, i3, i4, i5, i6⟩ := idx t
  have e1 : iblk m c 1 t = m ((c : Thread nD τ).loc main_arg1) := by funext i; blk_point [iblk, V, idx t]
  have e2 : iblk m c 2 t = m ((c : Thread nD τ).loc main_arg2) := by funext i; blk_point [iblk, V, idx t]
  have e3 : iblk m c 3 t = m ((c : Thread nD τ).loc main_arg3) := by funext i; blk_point [iblk, V, idx t]
  have e4 : iblk m c 4 t = m ((c : Thread nD τ).loc main_arg4) := by funext i; blk_point [iblk, V, idx t]
  have e5 : iblk m c 5 t = m ((c : Thread nD τ).loc main_arg5) := by funext i; blk_point [iblk, V, idx t]
  rw [e1, e2, e3, e4, e5]
  obtain ⟨r, j, rfl⟩ : ∃ (r : Fin 512) (j : Fin 1024), y = ix2 r j := ⟨y 0, y 1, eq_ix2 y⟩
  rw [pay_eq]
  have hr : t.val * 512 + r.val < 16384 := by have h : t.val < 32 := t.isLt; have := r.isLt; omega
  have ey : (win0_6.blk t).view.emb (ix2 r j) = ix2 (⟨t.val * 512 + r.val, hr⟩ : Fin 16384) j := by
    funext a
    apply Fin.ext
    fin_cases a <;> blk_simp <;> simp [i6]
  rw [ey]
  refine Rows.ffn_congr (fun k => ?_) _ _ _ _ _ j
  blk_point [iblk, V, idx t]

end Cert.FfnIdeal.Block

end
-- ==== Proof.FfnRef.lean ====
/-
  The reference's feed-forward block, read at an index: it is `Rows.ffn` over the whole array.
-/
module

public import proofs.«01_k».proof.Proof.Gen.FfnRefIdeal.Read
public import proofs.«01_k».proof.Proof.Rows

@[expose] public section

set_option maxRecDepth 16384

noncomputable section

namespace Cert.FfnRefIdeal.Rows

open Cert.FfnRefIdeal Cert.FfnRefIdeal.Gen Cert.FfnRefIdeal.Read Idealize.ShloMosaic Idealize.ShloMosaic.TcCoe Idealize.SL.Sem

variable (m : (ℓ : Loc nD τ sig) → Buf (Elt Ideal) ℓ)

/-- The reference's result is the feed-forward block of every row. -/
theorem result (c : Dev nD) : Value.res_main_v34 m c
    = Cert.Rows.ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  rw [eq_ix2 i]
  generalize i 0 = r
  generalize i 1 = j
  pointwise [Value.res_main_v34, Cert.Rows.ffn, Cert.Rows.norm, Cert.Rows.mul, Cert.Rows.gated, Cert.Rows.dot]
  rfl

end Cert.FfnRefIdeal.Rows

end
-- ==== Proof.FfnClaims.lean ====
/-
  The claims about the feed-forward call: its frames, and that it and its reference end with the same result.
-/
module

public import proofs.«01_k».proof.Defs
public import proofs.«01_k».proof.Proof.FfnBlock
public import proofs.«01_k».proof.Proof.FfnRef
public import proofs.«01_k».proof.Proof.Gen.Ffn.Frame

@[expose] public section

noncomputable section

namespace Cert.FfnClaims

open Idealize.ShloMosaic Idealize.SL.Sem

/-- The reference leaves its arguments and every counter as they were. -/
theorem frame_ref : Cert.quiescent_FfnRefIdeal (hFfnRefIdeal := Cert.FfnRefIdeal.Gen.facts) := fun m ρ _ =>
  (θ_run _ _ _).mono (fun r h => ⟨fun c => (h c).2, sem_eq_zero_of_no_sems (by decide) r.2⟩) (Cert.FfnRefIdeal.Value.run m ρ)

/-- The call and the reference end with equal results. -/
theorem algebraic : Cert.algebraic_FfnIdeal_FfnRefIdeal (hFfnIdeal := Cert.FfnIdeal.Gen.facts)
    (hFfnRefIdeal := Cert.FfnRefIdeal.Gen.facts) := by
  intro m g m' g' _ hm
  refine ⟨fun c => Cert.FfnRefIdeal.Value.res_main_v34 m' c, ?_, ?_⟩
  · refine (θ_run _ _ _).mono (fun r h c => ⟨(h c).1.trans ?_, (h c).2⟩) (Cert.FfnIdeal.Value.run_blocks m g)
    obtain ⟨h0, h1, h2, h3, h4, h5⟩ := hm c
    show _ = Cert.FfnRefIdeal.Value.res_main_v34 m' c
    rw [Cert.FfnRefIdeal.Rows.result, h0, h1, h2, h3, h4, h5]
    exact Cert.FfnIdeal.Block.final m c
  · exact (θ_run _ _ _).mono (fun r h c => h c) (Cert.FfnRefIdeal.Value.run m' g')

end Cert.FfnClaims

end
-- ==== Proof.ProjBlock.lean ====
/-
  What one grid point of the projection call writes to its seven outputs, and the outputs after the run: six column groups
  of the normalized rows times the input weights, two of them scaled, and the branch gates.
-/
module

public import proofs.«01_k».proof.Proof.Gen.ProjIdeal.Value
public import proofs.«01_k».proof.Proof.Rows
public import Idealize.ShloMosaic.Lib.Pipeline.ValueKit
public import Idealize.ShloMosaic.Lib.Pipeline.ReadBack

@[expose] public section

set_option maxRecDepth 16384

noncomputable section

namespace Cert.ProjIdeal.Block

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The rows are normalized first. -/
theorem normalized (x : FVec Ideal S512x1024 .f32) (g : FVec Ideal S1x1024 .f32) : k0_pay2 (F := Ideal) x g = Rows.norm x g := by
  funext i
  rw [eq_ix2 i]
  pointwise [k0_pay2, Rows.norm]

/-- The columns of a product from `off` are the product with the weights' columns from `off`. -/
theorem cols_mul {R C D : ℕ} (off : ℕ) (hb : off + D ≤ C) (h : Rows.Mat R 1024) (w : Rows.Mat 1024 C) (r : Fin R) (j : Fin D) :
    Rows.cols off hb (Rows.mul h w) (ix2 r j) = ∑ k : Fin 1024, h (ix2 r k) * w (ix2 k ⟨off + j.val, by omega⟩) := rfl

/-- The weights, biases and rows one point reads, and the rows it writes. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- Row `r` of the block at point `t` is row `512 t + r` of the array. -/
def row (t : Fin cfg0.N) (r : Fin 512) : Fin 16384 :=
  ⟨t.val * 512 + r.val, by have h : t.val < 32 := t.isLt; have := r.isLt; omega⟩

theorem in0 (c : Dev nD) (t : Fin cfg0.N) (r : Fin 512) (k : Fin 1024) :
    iblk m c 0 t (ix2 r k) = m ((c : Thread nD τ).loc main_arg0) (ix2 (row t r) k) := by
  unfold row
  blk_point [iblk, V, idx t]

theorem in1 (c : Dev nD) (t : Fin cfg0.N) : iblk m c 1 t = m ((c : Thread nD τ).loc main_arg1) := by
  funext i; blk_point [iblk, V, idx t]

theorem in2 (c : Dev nD) (t : Fin cfg0.N) : iblk m c 2 t = m ((c : Thread nD τ).loc main_arg2) := by
  funext i; blk_point [iblk, V, idx t]

theorem in3 (c : Dev nD) (t : Fin cfg0.N) : iblk m c 3 t = m ((c : Thread nD τ).loc main_arg3) := by
  funext i; blk_point [iblk, V, idx t]

theorem in4 (c : Dev nD) (t : Fin cfg0.N) : iblk m c 4 t = m ((c : Thread nD τ).loc main_arg4) := by
  funext i; blk_point [iblk, V, idx t]

/-- The block's normalized rows are the array's. -/
theorem normalized_row (c : Dev nD) (t : Fin cfg0.N) (r : Fin 512) (k : Fin 1024) : k0_pay2 (iblk m c 0 t) (iblk m c 1 t) (ix2 r k)
    = Rows.norm (m ((c : Thread nD τ).loc main_arg0)) (m ((c : Thread nD τ).loc main_arg1)) (ix2 (row t r) k) := by
  rw [in1]
  exact (congrFun (normalized _ _) (ix2 r k)).trans (Rows.norm_congr (fun l => in0 m c t r l) _ k)

/-- The rows read whole are the rows. -/
theorem pay11_eq (c : Dev nD) (t : Fin cfg0.N) : k0_pay11 (iblk m c 0 t) (iblk m c 1 t) (iblk m c 2 t) (iblk m c 3 t) (iblk m c 4 t)
    = k0_pay2 (iblk m c 0 t) (iblk m c 1 t) := by
  unfold k0_pay11
  congr 1
  · exact View.ld_unit_zero (by decide) _ _
  · exact View.ld_unit_zero (by decide) _ _

theorem emb5 (t : Fin cfg0.N) (r : Fin 512) (j : Fin 1024) : (win0_5.blk t).view.emb (ix2 r j) = ix2 (row t r) j := by
  funext a
  apply Fin.ext
  unfold row
  fin_cases a <;> blk_simp <;> simp [idx t]

/-- The output `q` after the run. -/
theorem final5 (c : Dev nD) : (dats m 0 c).arrAt 5 cfg0.N
    = Rows.scaled 0x3E000000#32 (Rows.cols 0 (by omega) (Rows.mul (Rows.norm (m ((c : Thread nD τ).loc main_arg0)) (m ((c : Thread nD τ).loc main_arg1))) (m ((c : Thread nD τ).loc main_arg2)))) := by
  refine (dats m 0 c).arrAt_eq_of_covers 5 _ (by decide +kernel) fun t _ y => ?_
  blk_simp
  rw [after0_5]
  frame_out
  obtain ⟨r, j, rfl⟩ : ∃ (r : Fin 512) (j : Fin 1024), y = ix2 r j := ⟨y 0, y 1, eq_ix2 y⟩
  rw [emb5]
  have hn := normalized_row m c t r
  rw [in2]
  pointwise [k0_pay3, Rows.scaled, Rows.cols, Rows.mul, Rows.dot]
  simp only [hn]

theorem emb6 (t : Fin cfg0.N) (r : Fin 512) (j : Fin 1024) : (win0_6.blk t).view.emb (ix2 r j) = ix2 (row t r) j := by
  funext a
  apply Fin.ext
  unfold row
  fin_cases a <;> blk_simp <;> simp [idx t]

/-- The output `k` after the run. -/
theorem final6 (c : Dev nD) : (dats m 0 c).arrAt 6 cfg0.N
    = Rows.cols 1024 (by omega) (Rows.mul (Rows.norm (m ((c : Thread nD τ).loc main_arg0)) (m ((c : Thread nD τ).loc main_arg1))) (m ((c : Thread nD τ).loc main_arg2))) := by
  refine (dats m 0 c).arrAt_eq_of_covers 6 _ (by decide +kernel) fun t _ y => ?_
  blk_simp
  rw [after0_6]
  frame_out
  obtain ⟨r, j, rfl⟩ : ∃ (r : Fin 512) (j : Fin 1024), y = ix2 r j := ⟨y 0, y 1, eq_ix2 y⟩
  rw [emb6]
  have hn := normalized_row m c t r
  rw [in2]
  pointwise [k0_pay4, Rows.scaled, Rows.cols, Rows.mul, Rows.dot]
  simp only [hn]

theorem emb7 (t : Fin cfg0.N) (r : Fin 512) (j : Fin 1024) : (win0_7.blk t).view.emb (ix2 r j) = ix2 (row t r) j := by
  funext a
  apply Fin.ext
  unfold row
  fin_cases a <;> blk_simp <;> simp [idx t]

/-- The output `v` after the run. -/
theorem final7 (c : Dev nD) : (dats m 0 c).arrAt 7 cfg0.N
    = Rows.cols 2048 (by omega) (Rows.mul (Rows.norm (m ((c : Thread nD τ).loc main_arg0)) (m ((c : Thread nD τ).loc main_arg1))) (m ((c : Thread nD τ).loc main_arg2))) := by
  refine (dats m 0 c).arrAt_eq_of_covers 7 _ (by decide +kernel) fun t _ y => ?_
  blk_simp
  rw [after0_7]
  frame_out
  obtain ⟨r, j, rfl⟩ : ∃ (r : Fin 512) (j : Fin 1024), y = ix2 r j := ⟨y 0, y 1, eq_ix2 y⟩
  rw [emb7]
  have hn := normalized_row m c t r
  rw [in2]
  pointwise [k0_pay5, Rows.scaled, Rows.cols, Rows.mul, Rows.dot]
  simp only [hn]

theorem emb8 (t : Fin cfg0.N) (r : Fin 512) (j : Fin 1024) : (win0_8.blk t).view.emb (ix2 r j) = ix2 (row t r) j := by
  funext a
  apply Fin.ext
  unfold row
  fin_cases a <;> blk_simp <;> simp [idx t]

/-- The output `xl` after the run. -/
theorem final8 (c : Dev nD) : (dats m 0 c).arrAt 8 cfg0.N
    = Rows.cols 3072 (by omega) (Rows.mul (Rows.norm (m ((c : Thread nD τ).loc main_arg0)) (m ((c : Thread nD τ).loc main_arg1))) (m ((c : Thread nD τ).loc main_arg2))) := by
  refine (dats m 0 c).arrAt_eq_of_covers 8 _ (by decide +kernel) fun t _ y => ?_
  blk_simp
  rw [after0_8]
  frame_out
  obtain ⟨r, j, rfl⟩ : ∃ (r : Fin 512) (j : Fin 1024), y = ix2 r j := ⟨y 0, y 1, eq_ix2 y⟩
  rw [emb8]
  rw [pay11_eq]
  have hn := normalized_row m c t r
  rw [in2]
  pointwise [k0_pay6, Rows.scaled, Rows.cols, Rows.mul, Rows.dot]
  simp only [hn]

theorem emb9 (t : Fin cfg0.N) (r : Fin 512) (j : Fin 1024) : (win0_9.blk t).view.emb (ix2 r j) = ix2 (row t r) j := by
  funext a
  apply Fin.ext
  unfold row
  fin_cases a <;> blk_simp <;> simp [idx t]

/-- The output `yl` after the run. -/
theorem final9 (c : Dev nD) : (dats m 0 c).arrAt 9 cfg0.N
    = Rows.cols 4096 (by omega) (Rows.mul (Rows.norm (m ((c : Thread nD τ).loc main_arg0)) (m ((c : Thread nD τ).loc main_arg1))) (m ((c : Thread nD τ).loc main_arg2))) := by
  refine (dats m 0 c).arrAt_eq_of_covers 9 _ (by decide +kernel) fun t _ y => ?_
  blk_simp
  rw [after0_9]
  frame_out
  obtain ⟨r, j, rfl⟩ : ∃ (r : Fin 512) (j : Fin 1024), y = ix2 r j := ⟨y 0, y 1, eq_ix2 y⟩
  rw [emb9]
  rw [pay11_eq]
  have hn := normalized_row m c t r
  rw [in2]
  pointwise [k0_pay7, Rows.scaled, Rows.cols, Rows.mul, Rows.dot]
  simp only [hn]

theorem emb10 (t : Fin cfg0.N) (r : Fin 512) (j : Fin 1024) : (win0_10.blk t).view.emb (ix2 r j) = ix2 (row t r) j := by
  funext a
  apply Fin.ext
  unfold row
  fin_cases a <;> blk_simp <;> simp [idx t]

/-- The output `qc` after the run. -/
theorem final10 (c : Dev nD) : (dats m 0 c).arrAt 10 cfg0.N
    = Rows.scaled 0x3D800000#32 (Rows.cols 5120 (by omega) (Rows.mul (Rows.norm (m ((c : Thread nD τ).loc main_arg0)) (m ((c : Thread nD τ).loc main_arg1))) (m ((c : Thread nD τ).loc main_arg2)))) := by
  refine (dats m 0 c).arrAt_eq_of_covers 10 _ (by decide +kernel) fun t _ y => ?_
  blk_simp
  rw [after0_10]
  frame_out
  obtain ⟨r, j, rfl⟩ : ∃ (r : Fin 512) (j : Fin 1024), y = ix2 r j := ⟨y 0, y 1, eq_ix2 y⟩
  rw [emb10]
  rw [pay11_eq]
  have hn := normalized_row m c t r
  rw [in2]
  pointwise [k0_pay8, Rows.scaled, Rows.cols, Rows.mul, Rows.dot]
  simp only [hn]

/-- The gates over a block of 512 normalized rows. -/
def gateCols (h : FVec Ideal S512x1024 .bf16) (w : FVec Ideal S1024x3072 .bf16) (b : FVec Ideal S1x3072 .f32) : FVec Ideal S512x3072 .bf16 :=
  fun i => Ideal.logistic (Rows.dot (h : Rows.Mat 512 1024) w (i 0) (i 1) + b (ix2 0 (i 1)))

/-- The 1024 columns from `off` that one slice of the gate weights gives are those columns of the gates. -/
theorem gate_piece (off : ℕ) (h : FVec Ideal S512x1024 .bf16) (w : FVec Ideal S1024x3072 .bf16) (b : FVec Ideal S1x3072 .f32)
    (inw : ∀ a, (![0, off] : Fin 2 → ℕ) a + (![1024, 1024] : Fin 2 → ℕ) a ≤ S1024x3072.size a)
    (inb : ∀ a, (![0, off] : Fin 2 → ℕ) a + (![1, 1024] : Fin 2 → ℕ) a ≤ S1x3072.size a)
    (ino : ∀ a, (![0, off] : Fin 2 → ℕ) a + (![512, 1024] : Fin 2 → ℕ) a ≤ S512x3072.size a) (x : S512x1024.Idx) :
    k0_pay9 h (View.ld w (Rect.unit (s := S1024x3072) ![0, off] ![1024, 1024] inw))
        (View.ld b (Rect.unit (s := S1x3072) ![0, off] ![1, 1024] inb)) x
      = gateCols h w b ((Rect.unit (s := S512x3072) ![0, off] ![512, 1024] ino).emb x) := by
  have e0 : ((Rect.unit (s := S512x3072) ![0, off] ![512, 1024] ino).emb x 0) = x 0 := Fin.ext (by show 0 + 1 * (x 0).val = (x 0).val; omega)
  have e1 : ((Rect.unit (s := S512x3072) ![0, off] ![512, 1024] ino).emb x 1) = ⟨off + (x 1).val, by have := ino 1; have := (x 1).isLt; simp at *; omega⟩ :=
    Fin.ext (by show off + 1 * (x 1).val = _; simp)
  pointwise [k0_pay9, gateCols, Rows.dot]
  rw [e0, e1]
  rfl

theorem emb11 (t : Fin cfg0.N) (r : Fin 512) (j : Fin 3072) : (win0_11.blk t).view.emb (ix2 r j) = ix2 (row t r) j := by
  funext a
  apply Fin.ext
  unfold row
  fin_cases a <;> blk_simp <;> simp [idx t]

/-- The gates after the run. -/
theorem final11 (c : Dev nD) : (dats m 0 c).arrAt 11 cfg0.N
    = Rows.gates (m ((c : Thread nD τ).loc main_arg0)) (m ((c : Thread nD τ).loc main_arg1)) (m ((c : Thread nD τ).loc main_arg3)) (m ((c : Thread nD τ).loc main_arg4)) := by
  refine (dats m 0 c).arrAt_eq_of_covers 11 _ (by decide +kernel) fun t _ y => ?_
  blk_simp
  rw [after0_11]
  frame_out
  obtain ⟨r, j, rfl⟩ : ∃ (r : Fin 512) (j : Fin 3072), y = ix2 r j := ⟨y 0, y 1, eq_ix2 y⟩
  rw [emb11, pay11_eq, in3, in4]
  have hn := normalized_row m c t r
  refine (View.canon_append_of_piecesOf (Val := Elt Ideal) (e := .bf16) (gateCols (k0_pay2 (iblk m c 0 t) (iblk m c 1 t))
    (m ((c : Thread nD τ).loc main_arg3)) (m ((c : Thread nD τ).loc main_arg4))) [] [_, _, _] ⟨?_, ?_, ?_, trivial⟩ _ ?_).trans ?_
  case refine_4 => exact View.cover_of_tiledL _ ![512, 1024] (by sl_kernel_rfl) (ix2 r j)
  case refine_5 =>
    show Ideal.logistic (Rows.dot (k0_pay2 (iblk m c 0 t) (iblk m c 1 t) : Rows.Mat 512 1024) _ r j + _) = Ideal.logistic (Rows.dot _ _ (row t r) j + _)
    rw [Rows.dot_congr hn]
    rfl
  all_goals exact gate_piece _ _ _ _ _ _ (by decide)

end Cert.ProjIdeal.Block

end
-- ==== Proof.ProjRef.lean ====
/-
  The reference's projection, read at an index: its seven results are the column groups and the gates of `Rows`.
-/
module

public import proofs.«01_k».proof.Proof.Gen.ProjRefIdeal.Read
public import proofs.«01_k».proof.Proof.Rows

@[expose] public section

set_option maxRecDepth 16384

noncomputable section

namespace Cert.ProjRefIdeal.Rows

open Cert.ProjRefIdeal Cert.ProjRefIdeal.Gen Cert.ProjRefIdeal.Read Idealize.ShloMosaic Idealize.ShloMosaic.TcCoe Idealize.SL.Sem

variable (x : FVec Ideal S16384x1024 .f32) (g : FVec Ideal S1x1024 .f32) (w : FVec Ideal S1024x6144 .bf16)
  (wb : FVec Ideal S1024x3072 .bf16) (b : FVec Ideal S1x3072 .f32)

theorem result_q : val_main_v32 (F := Ideal) x g w = Cert.Rows.scaled 0x3E000000#32 (Cert.Rows.cols 0 (by omega) (Cert.Rows.mul (Cert.Rows.norm x g) w)) := by
  rw [← val_main_v32_eq]
  funext i
  rw [eq_ix2 i]
  generalize i 0 = r
  generalize i 1 = j
  pointwise [Cert.Rows.scaled, Cert.Rows.cols, Cert.Rows.mul, Cert.Rows.dot, Cert.Rows.norm]

theorem result_k : val_main_v33 (F := Ideal) x g w = Cert.Rows.cols 1024 (by omega) (Cert.Rows.mul (Cert.Rows.norm x g) w) := by
  rw [← val_main_v33_eq]
  funext i
  rw [eq_ix2 i]
  generalize i 0 = r
  generalize i 1 = j
  pointwise [Cert.Rows.scaled, Cert.Rows.cols, Cert.Rows.mul, Cert.Rows.dot, Cert.Rows.norm]

theorem result_v : val_main_v34 (F := Ideal) x g w = Cert.Rows.cols 2048 (by omega) (Cert.Rows.mul (Cert.Rows.norm x g) w) := by
  rw [← val_main_v34_eq]
  funext i
  rw [eq_ix2 i]
  generalize i 0 = r
  generalize i 1 = j
  pointwise [Cert.Rows.scaled, Cert.Rows.cols, Cert.Rows.mul, Cert.Rows.dot, Cert.Rows.norm]

theorem result_xl : val_main_v17 (F := Ideal) x g w = Cert.Rows.cols 3072 (by omega) (Cert.Rows.mul (Cert.Rows.norm x g) w) := by
  rw [← val_main_v17_eq]
  funext i
  rw [eq_ix2 i]
  generalize i 0 = r
  generalize i 1 = j
  pointwise [Cert.Rows.scaled, Cert.Rows.cols, Cert.Rows.mul, Cert.Rows.dot, Cert.Rows.norm]

theorem result_yl : val_main_v18 (F := Ideal) x g w = Cert.Rows.cols 4096 (by omega) (Cert.Rows.mul (Cert.Rows.norm x g) w) := by
  rw [← val_main_v18_eq]
  funext i
  rw [eq_ix2 i]
  generalize i 0 = r
  generalize i 1 = j
  pointwise [Cert.Rows.scaled, Cert.Rows.cols, Cert.Rows.mul, Cert.Rows.dot, Cert.Rows.norm]

theorem result_qc : val_main_v37 (F := Ideal) x g w = Cert.Rows.scaled 0x3D800000#32 (Cert.Rows.cols 5120 (by omega) (Cert.Rows.mul (Cert.Rows.norm x g) w)) := by
  rw [← val_main_v37_eq]
  funext i
  rw [eq_ix2 i]
  generalize i 0 = r
  generalize i 1 = j
  pointwise [Cert.Rows.scaled, Cert.Rows.cols, Cert.Rows.mul, Cert.Rows.dot, Cert.Rows.norm]

theorem result_gates : val_main_v38 (F := Ideal) x g wb b = Cert.Rows.gates x g wb b := by
  rw [← val_main_v38_eq]
  funext i
  rw [eq_ix2 i]
  generalize i 0 = r
  generalize i 1 = j
  pointwise [Cert.Rows.gates, Cert.Rows.dot, Cert.Rows.norm]
  rfl

end Cert.ProjRefIdeal.Rows

end
-- ==== Proof.ProjClaims.lean ====
/-
  The claims about the projection call: its reference's frame, and that it and its reference end with the same seven results.
-/
module

public import proofs.«01_k».proof.Defs
public import proofs.«01_k».proof.Proof.ProjBlock
public import proofs.«01_k».proof.Proof.ProjRef

@[expose] public section

set_option maxRecDepth 16384

noncomputable section

namespace Cert.ProjClaims

open Idealize.ShloMosaic Idealize.SL.Sem

/-- The reference leaves its arguments and every counter as they were. -/
theorem frame_ref : Cert.quiescent_ProjRefIdeal (hProjRefIdeal := Cert.ProjRefIdeal.Gen.facts) := fun m ρ _ =>
  (θ_run _ _ _).mono (fun r h => ⟨fun c => (h c).2.2.2.2.2.2.2, sem_eq_zero_of_no_sems (by decide) r.2⟩) (Cert.ProjRefIdeal.Value.run m ρ)

/-- The call and the reference end with equal results. -/
theorem algebraic : Cert.algebraic_ProjIdeal_ProjRefIdeal (hProjIdeal := Cert.ProjIdeal.Gen.facts)
    (hProjRefIdeal := Cert.ProjRefIdeal.Gen.facts) := by
  intro m g m' g' _ hm
  have h0 := fun c => (hm c).1
  have h1 := fun c => (hm c).2.1
  have h2 := fun c => (hm c).2.2.1
  have h3 := fun c => (hm c).2.2.2.1
  have h4 := fun c => (hm c).2.2.2.2
  refine ⟨fun c => Cert.ProjRefIdeal.Read.val_main_v32 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)),
    fun c => Cert.ProjRefIdeal.Read.val_main_v33 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)),
    fun c => Cert.ProjRefIdeal.Read.val_main_v34 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)),
    fun c => Cert.ProjRefIdeal.Read.val_main_v17 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)),
    fun c => Cert.ProjRefIdeal.Read.val_main_v18 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)),
    fun c => Cert.ProjRefIdeal.Read.val_main_v37 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)),
    fun c => Cert.ProjRefIdeal.Read.val_main_v38 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)), ?_, ?_⟩
  · refine (θ_run _ _ _).mono (fun r h c => ?_) (Cert.ProjIdeal.Value.run_blocks m g)
    have eq5 (c) : (Cert.ProjIdeal.Gen.dats m 0 c).arrAt 5 Cert.ProjIdeal.cfg0.N = Cert.ProjRefIdeal.Read.val_main_v32 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) := by
      rw [Cert.ProjRefIdeal.Rows.result_q, h0 c, h1 c, h2 c]
      exact Cert.ProjIdeal.Block.final5 m c
    have eq6 (c) : (Cert.ProjIdeal.Gen.dats m 0 c).arrAt 6 Cert.ProjIdeal.cfg0.N = Cert.ProjRefIdeal.Read.val_main_v33 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) := by
      rw [Cert.ProjRefIdeal.Rows.result_k, h0 c, h1 c, h2 c]
      exact Cert.ProjIdeal.Block.final6 m c
    have eq7 (c) : (Cert.ProjIdeal.Gen.dats m 0 c).arrAt 7 Cert.ProjIdeal.cfg0.N = Cert.ProjRefIdeal.Read.val_main_v34 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) := by
      rw [Cert.ProjRefIdeal.Rows.result_v, h0 c, h1 c, h2 c]
      exact Cert.ProjIdeal.Block.final7 m c
    have eq8 (c) : (Cert.ProjIdeal.Gen.dats m 0 c).arrAt 8 Cert.ProjIdeal.cfg0.N = Cert.ProjRefIdeal.Read.val_main_v17 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) := by
      rw [Cert.ProjRefIdeal.Rows.result_xl, h0 c, h1 c, h2 c]
      exact Cert.ProjIdeal.Block.final8 m c
    have eq9 (c) : (Cert.ProjIdeal.Gen.dats m 0 c).arrAt 9 Cert.ProjIdeal.cfg0.N = Cert.ProjRefIdeal.Read.val_main_v18 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) := by
      rw [Cert.ProjRefIdeal.Rows.result_yl, h0 c, h1 c, h2 c]
      exact Cert.ProjIdeal.Block.final9 m c
    have eq10 (c) : (Cert.ProjIdeal.Gen.dats m 0 c).arrAt 10 Cert.ProjIdeal.cfg0.N = Cert.ProjRefIdeal.Read.val_main_v37 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) := by
      rw [Cert.ProjRefIdeal.Rows.result_qc, h0 c, h1 c, h2 c]
      exact Cert.ProjIdeal.Block.final10 m c
    have eq11 (c) : (Cert.ProjIdeal.Gen.dats m 0 c).arrAt 11 Cert.ProjIdeal.cfg0.N = Cert.ProjRefIdeal.Read.val_main_v38 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)) := by
      rw [Cert.ProjRefIdeal.Rows.result_gates, h0 c, h1 c, h3 c, h4 c]
      exact Cert.ProjIdeal.Block.final11 m c
    exact ⟨((h c).1).trans (eq5 c),
      ((h c).2.1).trans (eq6 c),
      ((h c).2.2.1).trans (eq7 c),
      ((h c).2.2.2.1).trans (eq8 c),
      ((h c).2.2.2.2.1).trans (eq9 c),
      ((h c).2.2.2.2.2.1).trans (eq10 c),
      ((h c).2.2.2.2.2.2.1).trans (eq11 c), (h c).2.2.2.2.2.2.2⟩
  · exact (θ_run _ _ _).mono (fun r h c => h c) (Cert.ProjRefIdeal.Value.run m' g')

end Cert.ProjClaims

end
-- ==== Proof.Cross.lean ====
/-
  The merge of a row, over the extended reals: what the row's query attends to in the memory (four heads of 256 lanes over
  256 memory slots), the three gated branches, the mixing product, its normalization, and the row itself added.
-/
module

public import proofs.«01_k».proof.Proof.Rows
public import proofs.«01_k».proof.Proof.Softmax

@[expose] public section

noncomputable section

namespace Cert.Cross

open Idealize.ShloMosaic Cert.Rows

/-- Lane `e` of head `h`. -/
def lane (h : Fin 4) (e : Fin 256) : Fin 1024 := ⟨h.val * 256 + e.val, by omega⟩

/-- Every lane is a lane of a head. -/
theorem exists_lane (j : Fin 1024) : ∃ h e, j = lane h e :=
  ⟨⟨j.val / 256, by omega⟩, ⟨j.val % 256, by omega⟩, Fin.ext (by simp only [lane]; omega)⟩

/-- The score of memory slot `n` for head `h`: the query against the slot's key. -/
def score (q : Fin 1024 → EReal) (K : Fin 256 → Fin 1024 → EReal) (h : Fin 4) (n : Fin 256) : EReal :=
  ∑ e : Fin 256, q (lane h e) * K n (lane h e)

/-- The largest score of a head. -/
def top (q : Fin 1024 → EReal) (K : Fin 256 → Fin 1024 → EReal) (h : Fin 4) : EReal := Finset.univ.fold max ⊥ (score q K h)

/-- The sum of the values weighted by `exp (score − top)`, divided by the total weight. -/
def attend (q : Fin 1024 → EReal) (K V : Fin 256 → Fin 1024 → EReal) (h : Fin 4) (e : Fin 256) : EReal :=
  Ideal.div (∑ n, Ideal.exp (score q K h n - top q K h) * V n (lane h e)) (∑ n, Ideal.exp (score q K h n - top q K h))

/-- Where the query and the keys are real, dividing at the end is dividing every weight: the softmax's weighted sum. -/
theorem attend_eq (q : Fin 1024 → EReal) (K V : Fin 256 → Fin 1024 → EReal) (hq : ∀ j, ∃ r : ℝ, q j = r) (hK : ∀ n j, ∃ r : ℝ, K n j = r)
    (h : Fin 4) (e : Fin 256) : attend q K V h e
      = ∑ n, Ideal.div (Ideal.exp (score q K h n - top q K h)) (∑ n, Ideal.exp (score q K h n - top q K h)) * V n (lane h e) := by
  obtain ⟨L, hL, e'⟩ := Softmax.total_real (score q K h) (fun n => Softmax.sum_mul_real _ _ (fun _ => hq _) fun _ => hK n _) 0
  unfold attend top
  rw [e']
  exact Softmax.div_sum _ _ L hL

/-- The attended row, all heads side by side. -/
def attended (q : Fin 1024 → EReal) (K V : Fin 256 → Fin 1024 → EReal) (j : Fin 1024) : EReal :=
  attend q K V ⟨j.val / 256, by omega⟩ ⟨j.val % 256, by omega⟩

theorem attended_lane (q : Fin 1024 → EReal) (K V : Fin 256 → Fin 1024 → EReal) (h : Fin 4) (e : Fin 256) :
    attended q K V (lane h e) = attend q K V h e := by
  unfold attended
  congr 1 <;> apply Fin.ext <;> simp only [lane] <;> omega

/-- The three branches, each through its weights and times its gate. -/
def merged (a b c : Fin 1024 → EReal) (gt : Fin 3072 → EReal) (wa wb wc : Mat 1024 1024) (k : Fin 1024) : EReal :=
  gt ⟨k.val, by omega⟩ * (∑ l, a l * wa (ix2 l k)) + gt ⟨1024 + k.val, by omega⟩ * (∑ l, b l * wb (ix2 l k))
    + gt ⟨2048 + k.val, by omega⟩ * (∑ l, c l * wc (ix2 l k))

/-- The merged row through the mixing weights. -/
def mixed (y : Fin 1024 → EReal) (w : Mat 1024 1024) (k : Fin 1024) : EReal := ∑ l, y l * w (ix2 l k)

/-- The row plus the normalized row. -/
def added (x y : Fin 1024 → EReal) (g : Mat 1 1024) (j : Fin 1024) : EReal :=
  x j + y j * Ideal.rsqrt (Ideal.div (∑ k, y k * y k) (Ideal.ofBits .f32 0x44800000#32) + Ideal.ofBits .f32 0x358637BD#32) * g (ix2 0 j)

/-- The whole merge of a row. -/
def row (x a b q : Fin 1024 → EReal) (K V : Fin 256 → Fin 1024 → EReal) (gt : Fin 3072 → EReal) (wa wb wc w : Mat 1024 1024)
    (g : Mat 1 1024) : Fin 1024 → EReal :=
  added x (mixed (merged a b (attended q K V) gt wa wb wc) w) g

/-- The word of `-∞`. -/
theorem neg_inf : Ideal.ofBits .f32 0xFF800000#32 = ⊥ := by simp [Ideal.ofBits, Ideal.ieee]

/-- The word of zero. -/
theorem zero_word : Ideal.ofBits .f32 0x00000000#32 = 0 := by simp [Ideal.ofBits, Ideal.ieee]

end Cert.Cross

end
-- ==== Proof.MergeBlock.lean ====
/-
  What one grid point of the merge call writes: the merge (`Cross.row`) of each of its 512 rows. The kernel attends one
  head of 256 lanes at a time; the four pieces together are the attended rows.
-/
module

public import proofs.«01_k».proof.Proof.Gen.MergeIdeal.Value
public import proofs.«01_k».proof.Proof.Cross
public import Idealize.ShloMosaic.Lib.Pipeline.ValueKit
public import Idealize.ShloMosaic.Lib.Pipeline.ReadBack

@[expose] public section

set_option maxRecDepth 16384

noncomputable section

namespace Cert.MergeIdeal.Block

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The attended rows of a block. -/
def oca (q : FVec Ideal S1x512x1024 .bf16) (k v : FVec Ideal S1x256x1024 .bf16) : FVec Ideal S512x1024 .bf16 := fun i =>
  Cross.attended (fun j => q (ix3 0 (i 0) j)) (fun n j => k (ix3 0 n j)) (fun n j => v (ix3 0 n j)) (i 1)

/-- Head `h`'s columns of the attended rows. -/
theorem oca_emb (off : ℕ) (h : Fin 4) (ho : off = h.val * 256) (q : FVec Ideal S1x512x1024 .bf16) (k v : FVec Ideal S1x256x1024 .bf16)
    (ino : ∀ a, (![0, off] : Fin 2 → ℕ) a + (![512, 256] : Fin 2 → ℕ) a ≤ S512x1024.size a) (r : Fin 512) (e : Fin 256) :
    oca q k v ((Rect.unit (s := S512x1024) ![0, off] ![512, 256] ino).emb (ix2 r e))
      = Cross.attend (fun j => q (ix3 0 r j)) (fun n j => k (ix3 0 n j)) (fun n j => v (ix3 0 n j)) h e := by
  subst ho
  have e0 : ((Rect.unit (s := S512x1024) ![0, h.val * 256] ![512, 256] ino).emb (ix2 r e) 0) = r := Fin.ext (by show 0 + 1 * r.val = r.val; omega)
  have e1 : ((Rect.unit (s := S512x1024) ![0, h.val * 256] ![512, 256] ino).emb (ix2 r e) 1) = Cross.lane h e :=
    Fin.ext (by show h.val * 256 + 1 * e.val = h.val * 256 + e.val; omega)
  unfold oca
  rw [e0, e1, Cross.attended_lane]

theorem lane0 (e : Fin 256) : Cross.lane 0 e = ⟨e.val, by omega⟩ := Fin.ext (by show 0 * 256 + e.val = e.val; omega)
theorem lane1 (e : Fin 256) : Cross.lane 1 e = ⟨256 + e.val, by omega⟩ := rfl
theorem lane2 (e : Fin 256) : Cross.lane 2 e = ⟨512 + e.val, by omega⟩ := rfl
theorem lane3 (e : Fin 256) : Cross.lane 3 e = ⟨768 + e.val, by omega⟩ := rfl

variable (q : FVec Ideal S1x512x1024 .bf16) (k v : FVec Ideal S1x256x1024 .bf16)

/-! The four pieces, and where the 256 columns of a head lie. -/

theorem piece0 (K W : FVec Ideal S1x256x256 .bf16) (hK : ∀ n e, K (ix3 0 n e) = k (ix3 0 n (Cross.lane 0 e)))
    (hV : ∀ n e, W (ix3 0 n e) = v (ix3 0 n (Cross.lane 0 e))) (x : S512x256.Idx) (ino) : k0_pay3 (F := Ideal) q K W x
    = oca q k v ((Rect.unit (s := S512x1024) ![0, 0] ![512, 256] ino).emb x) := by
  obtain ⟨r, e, rfl⟩ : ∃ (r : Fin 512) (e : Fin 256), x = ix2 r e := ⟨x 0, x 1, eq_ix2 x⟩
  rw [oca_emb 0 0 rfl]
  unfold Cross.attend Cross.top Cross.score
  simp only [← hK, ← hV]
  simp only [lane0]
  pointwise [k0_pay3, k0_pay2]
  rw [Cross.neg_inf]

theorem piece1 (K W : FVec Ideal S1x256x256 .bf16) (hK : ∀ n e, K (ix3 0 n e) = k (ix3 0 n (Cross.lane 1 e)))
    (hV : ∀ n e, W (ix3 0 n e) = v (ix3 0 n (Cross.lane 1 e))) (x : S512x256.Idx) (ino) : k0_pay6 (F := Ideal) (k0_pay4 q K) (k0_pay5 q K) W x
    = oca q k v ((Rect.unit (s := S512x1024) ![0, 256] ![512, 256] ino).emb x) := by
  obtain ⟨r, e, rfl⟩ : ∃ (r : Fin 512) (e : Fin 256), x = ix2 r e := ⟨x 0, x 1, eq_ix2 x⟩
  rw [oca_emb 256 1 rfl]
  unfold Cross.attend Cross.top Cross.score
  simp only [← hK, ← hV]
  simp only [lane1]
  pointwise [k0_pay6, k0_pay5, k0_pay4, k0_pay2]
  rw [Cross.neg_inf]

theorem piece2 (K W : FVec Ideal S1x256x256 .bf16) (hK : ∀ n e, K (ix3 0 n e) = k (ix3 0 n (Cross.lane 2 e)))
    (hV : ∀ n e, W (ix3 0 n e) = v (ix3 0 n (Cross.lane 2 e))) (x : S512x256.Idx) (ino) : k0_pay7 (F := Ideal) (k0_pay2 q) K W x
    = oca q k v ((Rect.unit (s := S512x1024) ![0, 512] ![512, 256] ino).emb x) := by
  obtain ⟨r, e, rfl⟩ : ∃ (r : Fin 512) (e : Fin 256), x = ix2 r e := ⟨x 0, x 1, eq_ix2 x⟩
  rw [oca_emb 512 2 rfl]
  unfold Cross.attend Cross.top Cross.score
  simp only [← hK, ← hV]
  simp only [lane2]
  pointwise [k0_pay7, k0_pay2]
  rw [Cross.neg_inf]

theorem piece3 (K W : FVec Ideal S1x256x256 .bf16) (hK : ∀ n e, K (ix3 0 n e) = k (ix3 0 n (Cross.lane 3 e)))
    (hV : ∀ n e, W (ix3 0 n e) = v (ix3 0 n (Cross.lane 3 e))) (x : S512x256.Idx) (ino) : k0_pay10 (F := Ideal) (k0_pay8 (k0_pay2 q) K) (k0_pay9 (k0_pay2 q) K) W x
    = oca q k v ((Rect.unit (s := S512x1024) ![0, 768] ![512, 256] ino).emb x) := by
  obtain ⟨r, e, rfl⟩ : ∃ (r : Fin 512) (e : Fin 256), x = ix2 r e := ⟨x 0, x 1, eq_ix2 x⟩
  rw [oca_emb 768 3 rfl]
  unfold Cross.attend Cross.top Cross.score
  simp only [← hK, ← hV]
  simp only [lane3]
  pointwise [k0_pay10, k0_pay9, k0_pay8, k0_pay2]
  rw [Cross.neg_inf]

theorem cut0 (n e : Fin 256) :
    (Rect.unit (s := S1x256x1024) ![0, 0, 0] ![1, 256, 256] inb_S1x256x1024_S1x256x256_0_0_0).emb (ix3 0 n e) = ix3 0 n (Cross.lane 0 e) := by
  funext a
  apply Fin.ext
  match a with
  | ⟨0, _⟩ => rfl
  | ⟨1, _⟩ => show 0 + 1 * n.val = n.val; omega
  | ⟨2, _⟩ => show 0 + 1 * e.val = 0 * 256 + e.val; omega

theorem cut1 (n e : Fin 256) :
    (Rect.unit (s := S1x256x1024) ![0, 0, 256] ![1, 256, 256] inb_S1x256x1024_S1x256x256_0_0_256).emb (ix3 0 n e) = ix3 0 n (Cross.lane 1 e) := by
  funext a
  apply Fin.ext
  match a with
  | ⟨0, _⟩ => rfl
  | ⟨1, _⟩ => show 0 + 1 * n.val = n.val; omega
  | ⟨2, _⟩ => show 256 + 1 * e.val = 1 * 256 + e.val; omega

theorem cut2 (n e : Fin 256) :
    (Rect.unit (s := S1x256x1024) ![0, 0, 512] ![1, 256, 256] inb_S1x256x1024_S1x256x256_0_0_512).emb (ix3 0 n e) = ix3 0 n (Cross.lane 2 e) := by
  funext a
  apply Fin.ext
  match a with
  | ⟨0, _⟩ => rfl
  | ⟨1, _⟩ => show 0 + 1 * n.val = n.val; omega
  | ⟨2, _⟩ => show 512 + 1 * e.val = 2 * 256 + e.val; omega

theorem cut3 (n e : Fin 256) :
    (Rect.unit (s := S1x256x1024) ![0, 0, 768] ![1, 256, 256] inb_S1x256x1024_S1x256x256_0_0_768).emb (ix3 0 n e) = ix3 0 n (Cross.lane 3 e) := by
  funext a
  apply Fin.ext
  match a with
  | ⟨0, _⟩ => rfl
  | ⟨1, _⟩ => show 0 + 1 * n.val = n.val; omega
  | ⟨2, _⟩ => show 768 + 1 * e.val = 3 * 256 + e.val; omega

set_option maxHeartbeats 1000000 in
/-- The block's rows, by the words of the program. -/
theorem block (c : Dev nD) (t : Fin cfg0.N) : outsAt0 m c t
    = k0_pay1
      (k0_pay11 (View.ld (iblk m c 6 t) (Rect.unit ![0, 0, 0] ![1, 512, 1024] inb_S1x512x3072_S1x512x1024_0_0_0))
        (iblk m c 1 t) (iblk m c 7 t)
        (View.ld (iblk m c 6 t) (Rect.unit ![0, 0, 1024] ![1, 512, 1024] inb_S1x512x3072_S1x512x1024_0_0_1024))
        (iblk m c 2 t) (iblk m c 8 t))
      (View.ld (iblk m c 6 t) (Rect.unit ![0, 0, 2048] ![1, 512, 1024] inb_S1x512x3072_S1x512x1024_0_0_2048))
      (oca (iblk m c 3 t) (iblk m c 4 t) (iblk m c 5 t)) (iblk m c 9 t) (iblk m c 10 t) (iblk m c 0 t) (iblk m c 11 t) := by
  unfold outsAt0
  frame_out
  congr 1
  rw [View.readCov_eq_canon']
  funext z
  have ez : (Rect.unit (s := S512x1024) ![0, 0] ![512, 1024] inb_S512x1024_S512x1024_0_0).toLoadRect.idx z = z := by
    funext a; apply Fin.ext; match a with
    | ⟨0, _⟩ => show 0 + 1 * (z 0).val = _; simp
    | ⟨1, _⟩ => show 0 + 1 * (z 1).val = _; simp
  rw [ez]
  generalize (iblk m c 3 t) = x3
  generalize (iblk m c 4 t) = x4
  generalize (iblk m c 5 t) = x5
  refine View.canon_append_of_piecesOf (Val := Elt Ideal) (e := .bf16) (oca x3 x4 x5) [] [_, _, _, _] ⟨?_, ?_, ?_, ?_, trivial⟩ _ ?_
  case refine_5 => exact View.cover_of_tiledL _ ![512, 256] (by sl_kernel_rfl) z
  · exact fun x => piece3 x3 x4 x5 _ _ (fun n e => congrArg x4 (cut3 n e)) (fun n e => congrArg x5 (cut3 n e)) x inb_S512x1024_S512x256_0_768
  · exact fun x => piece2 x3 x4 x5 _ _ (fun n e => congrArg x4 (cut2 n e)) (fun n e => congrArg x5 (cut2 n e)) x inb_S512x1024_S512x256_0_512
  · exact fun x => piece1 x3 x4 x5 _ _ (fun n e => congrArg x4 (cut1 n e)) (fun n e => congrArg x5 (cut1 n e)) x inb_S512x1024_S512x256_0_256
  · exact fun x => piece0 x3 x4 x5 _ _ (fun n e => congrArg x4 (cut0 n e)) (fun n e => congrArg x5 (cut0 n e)) x inb_S512x1024_S512x256_0_0

/-- The payloads over the block are the merges of its rows. -/
theorem pay_eq (x : FVec Ideal S1x512x1024 .f32) (a b : FVec Ideal S1x512x1024 .bf16) (o : FVec Ideal S512x1024 .bf16) (gt : FVec Ideal S1x512x3072 .bf16)
    (ga gb gc : FVec Ideal S1x512x1024 .bf16) (ha : ∀ r j, ga (ix3 0 r j) = gt (ix3 0 r ⟨j.val, by omega⟩))
    (hb : ∀ r j, gb (ix3 0 r j) = gt (ix3 0 r ⟨1024 + j.val, by omega⟩)) (hc : ∀ r j, gc (ix3 0 r j) = gt (ix3 0 r ⟨2048 + j.val, by omega⟩))
    (wa wb wc w : FVec Ideal S1024x1024 .bf16) (g : FVec Ideal S1x1024 .f32) (r : Fin 512) (j : Fin 1024) :
    k0_pay1 (F := Ideal) (k0_pay11 ga a wa gb b wb) gc o wc w x g (ix3 0 r j)
    = Cross.added (fun j => x (ix3 0 r j)) (Cross.mixed (Cross.merged (fun j => a (ix3 0 r j)) (fun j => b (ix3 0 r j)) (fun j => o (ix2 r j))
        (fun j => gt (ix3 0 r j)) wa wb wc) w) g j := by
  unfold Cross.added Cross.mixed Cross.merged
  simp only [← ha, ← hb, ← hc]
  pointwise [k0_pay1, k0_pay11]

theorem gate0 (r : Fin 512) (j : Fin 1024) : (Rect.unit (s := S1x512x3072) ![0, 0, 0] ![1, 512, 1024] inb_S1x512x3072_S1x512x1024_0_0_0).emb (ix3 0 r j)
    = ix3 0 r ⟨j.val, by omega⟩ := by
  funext a
  apply Fin.ext
  match a with
  | ⟨0, _⟩ => rfl
  | ⟨1, _⟩ => show 0 + 1 * r.val = r.val; omega
  | ⟨2, _⟩ => show 0 + 1 * j.val = j.val; omega

theorem gate1 (r : Fin 512) (j : Fin 1024) : (Rect.unit (s := S1x512x3072) ![0, 0, 1024] ![1, 512, 1024] inb_S1x512x3072_S1x512x1024_0_0_1024).emb (ix3 0 r j)
    = ix3 0 r ⟨1024 + j.val, by omega⟩ := by
  funext a
  apply Fin.ext
  match a with
  | ⟨0, _⟩ => rfl
  | ⟨1, _⟩ => show 0 + 1 * r.val = r.val; omega
  | ⟨2, _⟩ => show 1024 + 1 * j.val = 1024 + j.val; omega

theorem gate2 (r : Fin 512) (j : Fin 1024) : (Rect.unit (s := S1x512x3072) ![0, 0, 2048] ![1, 512, 1024] inb_S1x512x3072_S1x512x1024_0_0_2048).emb (ix3 0 r j)
    = ix3 0 r ⟨2048 + j.val, by omega⟩ := by
  funext a
  apply Fin.ext
  match a with
  | ⟨0, _⟩ => rfl
  | ⟨1, _⟩ => show 0 + 1 * r.val = r.val; omega
  | ⟨2, _⟩ => show 2048 + 1 * j.val = 2048 + j.val; omega

/-- Which rows a grid point reads and writes: batch `t / 4`, rows from `512 (t % 4)`; the weights are read whole. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, 0, 0]
    ∧ win0_5.index t = ![t.val / 4, 0, 0] ∧ win0_6.index t = ![t.val / 4, t.val % 4, 0] ∧ win0_7.index t = ![0, 0] ∧ win0_8.index t = ![0, 0]
    ∧ win0_9.index t = ![0, 0] ∧ win0_10.index t = ![0, 0] ∧ win0_11.index t = ![0, 0] ∧ win0_12.index t = ![t.val / 4, t.val % 4, 0] :=
  (by decide +kernel : ∀ t : Fin grid0.N, _)

/-- The batch of the point. -/
def batch (t : Fin cfg0.N) : Fin 8 := ⟨t.val / 4, by have h : t.val < 32 := t.isLt; omega⟩

/-- Row `r` of the block at point `t`. -/
def row (t : Fin cfg0.N) (r : Fin 512) : Fin 2048 := ⟨t.val % 4 * 512 + r.val, by have := r.isLt; omega⟩

theorem in7 (c : Dev nD) (t : Fin cfg0.N) : iblk m c 7 t = m ((c : Thread nD τ).loc main_arg7) := by
  funext i; blk_point [iblk, V, idx t]

theorem in8 (c : Dev nD) (t : Fin cfg0.N) : iblk m c 8 t = m ((c : Thread nD τ).loc main_arg8) := by
  funext i; blk_point [iblk, V, idx t]

theorem in9 (c : Dev nD) (t : Fin cfg0.N) : iblk m c 9 t = m ((c : Thread nD τ).loc main_arg9) := by
  funext i; blk_point [iblk, V, idx t]

theorem in10 (c : Dev nD) (t : Fin cfg0.N) : iblk m c 10 t = m ((c : Thread nD τ).loc main_arg10) := by
  funext i; blk_point [iblk, V, idx t]

theorem in11 (c : Dev nD) (t : Fin cfg0.N) : iblk m c 11 t = m ((c : Thread nD τ).loc main_arg11) := by
  funext i; blk_point [iblk, V, idx t]

theorem in0 (c : Dev nD) (t : Fin cfg0.N) (r : Fin 512) (j : Fin 1024) :
    iblk m c 0 t (ix3 0 r j) = m ((c : Thread nD τ).loc main_arg0) (ix3 (batch t) (row t r) j) := by
  unfold batch row
  blk_point [iblk, V, idx t]

theorem in1 (c : Dev nD) (t : Fin cfg0.N) (r : Fin 512) (j : Fin 1024) :
    iblk m c 1 t (ix3 0 r j) = m ((c : Thread nD τ).loc main_arg1) (ix3 (batch t) (row t r) j) := by
  unfold batch row
  blk_point [iblk, V, idx t]

theorem in2 (c : Dev nD) (t : Fin cfg0.N) (r : Fin 512) (j : Fin 1024) :
    iblk m c 2 t (ix3 0 r j) = m ((c : Thread nD τ).loc main_arg2) (ix3 (batch t) (row t r) j) := by
  unfold batch row
  blk_point [iblk, V, idx t]

theorem in3 (c : Dev nD) (t : Fin cfg0.N) (r : Fin 512) (j : Fin 1024) :
    iblk m c 3 t (ix3 0 r j) = m ((c : Thread nD τ).loc main_arg3) (ix3 (batch t) (row t r) j) := by
  unfold batch row
  blk_point [iblk, V, idx t]

theorem in4 (c : Dev nD) (t : Fin cfg0.N) (n : Fin 256) (j : Fin 1024) :
    iblk m c 4 t (ix3 0 n j) = m ((c : Thread nD τ).loc main_arg4) (ix3 (batch t) n j) := by
  unfold batch
  blk_point [iblk, V, idx t]

theorem in5 (c : Dev nD) (t : Fin cfg0.N) (n : Fin 256) (j : Fin 1024) :
    iblk m c 5 t (ix3 0 n j) = m ((c : Thread nD τ).loc main_arg5) (ix3 (batch t) n j) := by
  unfold batch
  blk_point [iblk, V, idx t]

theorem in6 (c : Dev nD) (t : Fin cfg0.N) (r : Fin 512) (j : Fin 3072) :
    iblk m c 6 t (ix3 0 r j) = m ((c : Thread nD τ).loc main_arg6) (ix3 (batch t) (row t r) j) := by
  unfold batch row
  blk_point [iblk, V, idx t]

theorem emb12 (t : Fin cfg0.N) (r : Fin 512) (j : Fin 1024) : (win0_12.blk t).view.emb (ix3 0 r j) = ix3 (batch t) (row t r) j := by
  funext a
  apply Fin.ext
  unfold batch row
  fin_cases a <;> blk_simp <;> simp [idx t]

/-- The result array after the run: the merge of every row. -/
theorem final (c : Dev nD) : (dats m 0 c).arrAt 12 cfg0.N = fun i =>
    Cross.row (fun j => m ((c : Thread nD τ).loc main_arg0) (ix3 (i 0) (i 1) j)) (fun j => m ((c : Thread nD τ).loc main_arg1) (ix3 (i 0) (i 1) j))
      (fun j => m ((c : Thread nD τ).loc main_arg2) (ix3 (i 0) (i 1) j)) (fun j => m ((c : Thread nD τ).loc main_arg3) (ix3 (i 0) (i 1) j))
      (fun n j => m ((c : Thread nD τ).loc main_arg4) (ix3 (i 0) n j)) (fun n j => m ((c : Thread nD τ).loc main_arg5) (ix3 (i 0) n j))
      (fun j => m ((c : Thread nD τ).loc main_arg6) (ix3 (i 0) (i 1) j)) (m ((c : Thread nD τ).loc main_arg7)) (m ((c : Thread nD τ).loc main_arg8))
      (m ((c : Thread nD τ).loc main_arg9)) (m ((c : Thread nD τ).loc main_arg10)) (m ((c : Thread nD τ).loc main_arg11)) (i 2) := by
  refine (dats m 0 c).arrAt_eq_of_covers 12 _ (by decide +kernel) fun t _ y => ?_
  blk_simp
  rw [after0_12, block]
  obtain ⟨z, r, j, rfl⟩ : ∃ (z : Fin 1) (r : Fin 512) (j : Fin 1024), y = ix3 z r j := ⟨y 0, y 1, y 2, eq_ix3 y⟩
  obtain rfl : z = 0 := Subsingleton.elim _ _
  rw [emb12, in7, in8, in9, in10, in11]
  refine (pay_eq _ _ _ _ (iblk m c 6 t) _ _ _ (fun r j => congrArg (iblk m c 6 t) (gate0 r j)) (fun r j => congrArg (iblk m c 6 t) (gate1 r j))
    (fun r j => congrArg (iblk m c 6 t) (gate2 r j)) _ _ _ _ _ r j).trans ?_
  have e0 := in0 m c t r
  have e1 := in1 m c t r
  have e2 := in2 m c t r
  have e3 := in3 m c t r
  have e4 := in4 m c t
  have e5 := in5 m c t
  have e6 := in6 m c t r
  show Cross.added _ (Cross.mixed (Cross.merged _ _ (fun j => Cross.attended (fun j => iblk m c 3 t (ix3 0 r j)) (fun n j => iblk m c 4 t (ix3 0 n j))
    (fun n j => iblk m c 5 t (ix3 0 n j)) j) _ _ _ _) _) _ j = _
  simp only [e0, e1, e2, e3, e4, e5, e6]
  rfl

end Cert.MergeIdeal.Block

end
-- ==== Proof.MergeRef.lean ====
/-
  The merge call's reference, read at an index: the row merge of `Cross`, with the softmax's weights divided first.
-/
module
public import proofs.«01_k».proof.Proof.Gen.MergeRefIdeal.Read
public import proofs.«01_k».proof.Proof.Cross
@[expose] public section
set_option maxRecDepth 16384
noncomputable section
namespace Cert.MergeRefIdeal.Rows

open Cert.MergeRefIdeal Cert.MergeRefIdeal.Gen Cert.MergeRefIdeal.Read Idealize.ShloMosaic Idealize.ShloMosaic.TcCoe Idealize.SL.Sem

variable (x0 : FVec Ideal S8x2048x1024 .f32) (x1 x2 x3 : FVec Ideal S8x2048x1024 .bf16) (x4 x5 : FVec Ideal S8x256x1024 .bf16)
  (x6 : FVec Ideal S8x2048x3072 .bf16) (x7 x8 x9 x10 : FVec Ideal S1024x1024 .bf16) (x11 : FVec Ideal S1x1024 .f32)

/-- The scores. -/
theorem scores (b : Fin 8) (h : Fin 4) (r : Fin 2048) (n : Fin 256) : val_main_v13 (F := Ideal) x3 x4 (ix4 b h r n)
    = Cross.score (fun j => x3 (ix3 b r j)) (fun n j => x4 (ix3 b n j)) h n := by
  pointwise [val_main_v13, val_main_v10, val_main_v11, val_main_v2, val_main_v3, Cross.score, Cross.lane]

/-- The largest score of a row. -/
theorem maxima (b : Fin 8) (h : Fin 4) (r : Fin 2048) : val_main_v14 (F := Ideal) x3 x4 (ix3 b h r)
    = Cross.top (fun j => x3 (ix3 b r j)) (fun n j => x4 (ix3 b n j)) h := by
  have e : val_main_v14 (F := Ideal) x3 x4 (ix3 b h r) = Finset.univ.fold max ⊥ fun n => val_main_v13 (F := Ideal) x3 x4 (ix4 b h r n) := by
    unfold val_main_v14
    generalize val_main_v13 (F := Ideal) x3 x4 = y
    pointwise [val_main_cst]
    rw [Cross.neg_inf]
  rw [e]
  simp only [scores]
  rfl

theorem v16 (b : Fin 8) (h : Fin 4) (r : Fin 2048) : val_main_v16 (F := Ideal) x3 x4 (ix3 b h r)
    = Cross.top (fun j => x3 (ix3 b r j)) (fun n j => x4 (ix3 b n j)) h := by
  rw [val_main_v16_apply, maxima, val_main_v15_apply, val_main_cst_0_apply]
  show max (Ideal.ofBits .f32 0xFF800000#32) _ = _
  rw [Cross.neg_inf, max_eq_right bot_le]

theorem v18 (b : Fin 8) (h : Fin 4) (r : Fin 2048) (n : Fin 256) : val_main_v18 (F := Ideal) x3 x4 (ix4 b h r n)
    = val_main_v16 (F := Ideal) x3 x4 (ix3 b h r) := by
  rw [val_main_v18_apply, val_main_v17_apply]
  exact congrArg _ (funext fun a => by match a with | ⟨0, _⟩ => rfl | ⟨1, _⟩ => rfl | ⟨2, _⟩ => rfl)

/-- The undivided weights. -/
theorem v20 (b : Fin 8) (h : Fin 4) (r : Fin 2048) (n : Fin 256) : val_main_v20 (F := Ideal) x3 x4 (ix4 b h r n)
    = Ideal.exp (Cross.score (fun j => x3 (ix3 b r j)) (fun n j => x4 (ix3 b n j)) h n
      - Cross.top (fun j => x3 (ix3 b r j)) (fun n j => x4 (ix3 b n j)) h) := by
  rw [val_main_v20_apply, val_main_v19_apply, v18, v16, scores]
  rfl

/-- The total weight. -/
theorem v23 (b : Fin 8) (h : Fin 4) (r : Fin 2048) (n : Fin 256) : val_main_v23 (F := Ideal) x3 x4 (ix4 b h r n)
    = ∑ n, val_main_v20 (F := Ideal) x3 x4 (ix4 b h r n) := by
  rw [val_main_v23_apply, val_main_v22_apply, val_main_v21_apply, val_main_cst_1_apply]
  refine (congrArg (· + _) Cross.zero_word).trans ((zero_add _).trans (Finset.sum_congr rfl fun k _ => ?_))
  exact congrArg _ (funext fun a => by match a with | ⟨0, _⟩ => rfl | ⟨1, _⟩ => rfl | ⟨2, _⟩ => rfl | ⟨3, _⟩ => rfl)

/-- The weights' sum of the values, head by head. -/
theorem attended (b : Fin 8) (h : Fin 4) (r : Fin 2048) (e : Fin 256) : val_main_v27 (F := Ideal) x3 x4 x5 (ix3 b r (Cross.lane h e))
    = ∑ n, val_main_v24 (F := Ideal) x3 x4 (ix4 b h r n) * x5 (ix3 b n (Cross.lane h e)) := by
  unfold val_main_v27 val_main_v26 val_main_v25
  generalize val_main_v24 (F := Ideal) x3 x4 = y
  pointwise [val_main_v12, val_main_v4]
  have eh : ∀ p, (⟨(Cross.lane h e).val / 256, p⟩ : Fin 4) = h := fun p => Fin.ext (by simp only [Cross.lane]; omega)
  simp only [eh]
  exact Finset.sum_congr rfl fun n _ => mul_comm _ _

/-- Where the queries and the keys are real the attended rows are those of `Cross`. -/
theorem attended_eq (hq : ∀ i, ∃ r : ℝ, x3 i = r) (hK : ∀ i, ∃ r : ℝ, x4 i = r) (b : Fin 8) (r : Fin 2048) (j : Fin 1024) :
    val_main_v27 (F := Ideal) x3 x4 x5 (ix3 b r j)
      = Cross.attended (fun j => x3 (ix3 b r j)) (fun n j => x4 (ix3 b n j)) (fun n j => x5 (ix3 b n j)) j := by
  obtain ⟨h, e, rfl⟩ := Cross.exists_lane j
  rw [attended, Cross.attended_lane, Cross.attend_eq _ _ _ (fun _ => hq _) fun _ _ => hK _]
  refine Finset.sum_congr rfl fun n _ => ?_
  rw [val_main_v24_apply, v23]
  simp only [v20]
  rfl

/-- The merged rows through the mixing weights. -/
theorem mixed (b : Fin 8) (r : Fin 2048) (j : Fin 1024) : val_main_v43 (F := Ideal) x1 x2 x3 x4 x5 x6 x7 x8 x9 x10 (ix3 b r j)
    = Cross.mixed (Cross.merged (fun j => x1 (ix3 b r j)) (fun j => x2 (ix3 b r j)) (fun j => val_main_v27 (F := Ideal) x3 x4 x5 (ix3 b r j))
      (fun j => x6 (ix3 b r j)) x7 x8 x9) x10 j := by
  unfold val_main_v43 val_main_v42 val_main_v41 val_main_v40
  generalize val_main_v27 (F := Ideal) x3 x4 x5 = y
  pointwise [val_main_v37, val_main_v36, val_main_v39, val_main_v38, val_main_v35, val_main_v34, val_main_v33, val_main_v32, val_main_v31, val_main_v30,
    val_main_v29, val_main_v28, val_main_v0, val_main_v1, val_main_v5, val_main_v6, val_main_v7, val_main_v8, val_main_v9, Cross.mixed, Cross.merged]

/-- The rows normalized and added. -/
theorem added (b : Fin 8) (r : Fin 2048) (j : Fin 1024) : val_main_v57 (F := Ideal) x0 x1 x2 x3 x4 x5 x6 x7 x8 x9 x10 x11 (ix3 b r j)
    = Cross.added (fun j => x0 (ix3 b r j)) (fun j => val_main_v43 (F := Ideal) x1 x2 x3 x4 x5 x6 x7 x8 x9 x10 (ix3 b r j)) x11 j := by
  unfold val_main_v57 val_main_v56 val_main_v53 val_main_v52 val_main_v51 val_main_v50 val_main_v48 val_main_v46 val_main_v45 val_main_v44
  generalize val_main_v43 (F := Ideal) x1 x2 x3 x4 x5 x6 x7 x8 x9 x10 = y
  pointwise [val_main_v55, val_main_v54, val_main_v49, val_main_v47, val_main_cst_2, val_main_cst_3, val_main_cst_4, Cross.added]

/-- The reference's result. -/
theorem result (hq : ∀ i, ∃ r : ℝ, x3 i = r) (hK : ∀ i, ∃ r : ℝ, x4 i = r) (b : Fin 8) (r : Fin 2048) (j : Fin 1024) :
    val_main_v57 (F := Ideal) x0 x1 x2 x3 x4 x5 x6 x7 x8 x9 x10 x11 (ix3 b r j)
      = Cross.row (fun j => x0 (ix3 b r j)) (fun j => x1 (ix3 b r j)) (fun j => x2 (ix3 b r j)) (fun j => x3 (ix3 b r j))
        (fun n j => x4 (ix3 b n j)) (fun n j => x5 (ix3 b n j)) (fun j => x6 (ix3 b r j)) x7 x8 x9 x10 x11 j := by
  rw [added]
  simp only [mixed, attended_eq x3 x4 x5 hq hK]
  rfl

end Cert.MergeRefIdeal.Rows

end
-- ==== Proof.MergeClaims.lean ====
/-
  The claims about the merge call: its frames, and that it and its reference end with the same result where the queries and
  the keys of the attention over the memory are finite.
-/
module

public import proofs.«01_k».proof.Defs
public import proofs.«01_k».proof.Proof.MergeBlock
public import proofs.«01_k».proof.Proof.MergeRef
public import proofs.«01_k».proof.Proof.Finite
public import proofs.«01_k».proof.Proof.Gen.Merge.Frame
public import proofs.«01_k».proof.Proof.Gen.Pre_finite_memory
public import Idealize.ShloMosaic.Lib.Quiescent

@[expose] public section

set_option maxRecDepth 16384

noncomputable section

namespace Cert.MergeClaims

open Idealize.ShloMosaic Idealize.SL.Sem

/-- The reference leaves its arguments and every counter as they were. -/
theorem frame_ref : Cert.quiescent_MergeRefIdeal (hMergeRefIdeal := Cert.MergeRefIdeal.Gen.facts) := fun m ρ _ =>
  (θ_run _ _ _).mono (fun r h => ⟨fun c => (h c).2, sem_eq_zero_of_no_sems (by decide) r.2⟩) (Cert.MergeRefIdeal.Value.run m ρ)

/-- The call and the reference end with equal results. -/
theorem algebraic : Cert.algebraic_MergeIdeal_MergeRefIdeal_pre_finite_memory (hMergeIdeal := Cert.MergeIdeal.Gen.facts)
    (hMergeRefIdeal := Cert.MergeRefIdeal.Gen.facts) (hPre_finite_memory := Cert.Pre_finite_memory.Gen.facts) := by
  intro m g m' g' hpre hm
  refine ⟨fun c => Cert.MergeRefIdeal.Value.res_main_v57 m' c, ?_, ?_⟩
  · refine (θ_run _ _ _).mono (fun r h c => ⟨(h c).1.trans ?_, (h c).2⟩) (Cert.MergeIdeal.Value.run_blocks m g)
    obtain ⟨h0, h1, h2, h3, h4, h5, h6, h7, h8, h9, h10, h11⟩ := hm c
    have hq := Cert.Finite.entries _ _ _ (hpre c).1
    have hK := Cert.Finite.entries _ _ _ (hpre c).2
    show _ = Cert.MergeRefIdeal.Value.res_main_v57 m' c
    rw [Cert.MergeRefIdeal.Read.val_main_v57_eq, h0, h1, h2, h3, h4, h5, h6, h7, h8, h9, h10, h11, Cert.MergeIdeal.Block.final m c]
    funext i
    obtain ⟨b, r, j, rfl⟩ : ∃ (b : Fin 8) (r : Fin 2048) (j : Fin 1024), i = ix3 b r j := ⟨i 0, i 1, i 2, eq_ix3 i⟩
    exact (Cert.MergeRefIdeal.Rows.result _ _ _ _ _ _ _ _ _ _ _ _ hq hK b r j).symm
  · exact (θ_run _ _ _).mono (fun r h c => h c) (Cert.MergeRefIdeal.Value.run m' g')

end Cert.MergeClaims

end
-- ==== Proof.Memory.lean ====
/-
  What the memory's projection computes: columns of the normalized rows of one batch entry's memory times the weights.
-/
module

public import proofs.«01_k».proof.Proof.Rows

@[expose] public section

noncomputable section

namespace Cert.Memory

open Idealize.ShloMosaic Cert.Rows

/-- The memory of one batch entry. -/
def slab {B : ℕ} (x : (⟨3, ![B, 256, 1024]⟩ : Shape).Idx → EReal) (b : Fin B) : Mat 256 1024 := fun i => x (ix3 b (i 0) (i 1))

/-- The projection's 1024 columns from `off`. -/
def part {B : ℕ} (off : ℕ) (h : off + 1024 ≤ 2048) (x : (⟨3, ![B, 256, 1024]⟩ : Shape).Idx → EReal) (g : Mat 1 1024) (w : Mat 1024 2048)
    (b : Fin B) (r : Fin 256) (j : Fin 1024) : EReal := cols off h (mul (norm (slab x b) g) w) (ix2 r j)

theorem part_congr {B C : ℕ} (off : ℕ) (h : off + 1024 ≤ 2048) {x : (⟨3, ![B, 256, 1024]⟩ : Shape).Idx → EReal}
    {y : (⟨3, ![C, 256, 1024]⟩ : Shape).Idx → EReal} {b : Fin B} {d : Fin C} (e : ∀ r k, x (ix3 b r k) = y (ix3 d r k)) (g : Mat 1 1024)
    (w : Mat 1024 2048) (r : Fin 256) (j : Fin 1024) : part off h x g w b r j = part off h y g w d r j := by
  have : slab x b = slab y d := funext fun i => e (i 0) (i 1)
  unfold part
  rw [this]

end Cert.Memory

end
-- ==== Proof.MemoryBlock.lean ====
/-
  What one grid point of the memory's projection writes, and its two outputs after the run.
-/
module

public import proofs.«01_k».proof.Proof.Gen.MemoryIdeal.Value
public import proofs.«01_k».proof.Proof.Memory
public import Idealize.ShloMosaic.Lib.Pipeline.ValueKit
public import Idealize.ShloMosaic.Lib.Pipeline.ReadBack

@[expose] public section

set_option maxRecDepth 16384

noncomputable section

namespace Cert.MemoryIdeal.Block

open Cert.MemoryIdeal Cert.MemoryIdeal.Gen Idealize.ShloMosaic Idealize.ShloMosaic.TcCoe Idealize.SL.Sem
open Idealize.ShloMosaic.Pipeline (Dat)

variable (m : (ℓ : Loc nD τ sig) → Buf (Elt Ideal) ℓ)

/-- The memory is normalized first. -/
theorem normalized (x : FVec Ideal S1x256x1024 .f32) (g : FVec Ideal S1x1024 .f32) (r : Fin 256) (k : Fin 1024) :
    k0_pay1 (F := Ideal) x g (ix2 r k) = Rows.norm (Memory.slab x 0) g (ix2 r k) := by
  pointwise [k0_pay1, Rows.norm, Memory.slab]

/-- The blocks one point reads and writes. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

/-- The batch entry of a point. -/
def batch (t : Fin cfg0.N) : Fin 8 := ⟨t.val, t.isLt⟩

theorem in0 (c : Dev nD) (t : Fin cfg0.N) (r : Fin 256) (k : Fin 1024) :
    iblk m c 0 t (ix3 0 r k) = m ((c : Thread nD τ).loc main_arg0) (ix3 (batch t) r k) := by
  unfold batch
  blk_point [iblk, V, idx t]

theorem in1 (c : Dev nD) (t : Fin cfg0.N) : iblk m c 1 t = m ((c : Thread nD τ).loc main_arg1) := by
  funext i; blk_point [iblk, V, idx t]

theorem in2 (c : Dev nD) (t : Fin cfg0.N) : iblk m c 2 t = m ((c : Thread nD τ).loc main_arg2) := by
  funext i; blk_point [iblk, V, idx t]

theorem emb3 (t : Fin cfg0.N) (r : Fin 256) (j : Fin 1024) : (win0_3.blk t).view.emb (ix3 0 r j) = ix3 (batch t) r j := by
  funext a
  apply Fin.ext
  unfold batch
  fin_cases a <;> blk_simp <;> simp [idx t]

theorem emb4 (t : Fin cfg0.N) (r : Fin 256) (j : Fin 1024) : (win0_4.blk t).view.emb (ix3 0 r j) = ix3 (batch t) r j := by
  funext a
  apply Fin.ext
  unfold batch
  fin_cases a <;> blk_simp <;> simp [idx t]

/-- The keys after the run. -/
theorem final3 (c : Dev nD) : (dats m 0 c).arrAt 3 cfg0.N = fun i => Memory.part 0 (by omega) (m ((c : Thread nD τ).loc main_arg0))
    (m ((c : Thread nD τ).loc main_arg1)) (m ((c : Thread nD τ).loc main_arg2)) (i 0) (i 1) (i 2) := by
  refine (dats m 0 c).arrAt_eq_of_covers 3 _ (by decide +kernel) fun t _ y => ?_
  blk_simp
  rw [after0_3]
  frame_out
  obtain ⟨z, r, j, rfl⟩ : ∃ (z : Fin 1) (r : Fin 256) (j : Fin 1024), y = ix3 z r j := ⟨y 0, y 1, y 2, eq_ix3 y⟩
  obtain rfl : z = 0 := Subsingleton.elim _ _
  rw [emb3]
  refine Eq.trans ?_ (Memory.part_congr 0 (by omega) (in0 m c t) (m ((c : Thread nD τ).loc main_arg1)) (m ((c : Thread nD τ).loc main_arg2)) r j)
  rw [in1, in2]
  pointwise [k0_pay2, Memory.part, Rows.cols, Rows.mul, Rows.dot]
  simp only [normalized]

/-- The values after the run. -/
theorem final4 (c : Dev nD) : (dats m 0 c).arrAt 4 cfg0.N = fun i => Memory.part 1024 (by omega) (m ((c : Thread nD τ).loc main_arg0))
    (m ((c : Thread nD τ).loc main_arg1)) (m ((c : Thread nD τ).loc main_arg2)) (i 0) (i 1) (i 2) := by
  refine (dats m 0 c).arrAt_eq_of_covers 4 _ (by decide +kernel) fun t _ y => ?_
  blk_simp
  rw [after0_4]
  frame_out
  obtain ⟨z, r, j, rfl⟩ : ∃ (z : Fin 1) (r : Fin 256) (j : Fin 1024), y = ix3 z r j := ⟨y 0, y 1, y 2, eq_ix3 y⟩
  obtain rfl : z = 0 := Subsingleton.elim _ _
  rw [emb4]
  refine Eq.trans ?_ (Memory.part_congr 1024 (by omega) (in0 m c t) (m ((c : Thread nD τ).loc main_arg1)) (m ((c : Thread nD τ).loc main_arg2)) r j)
  rw [in1, in2]
  pointwise [k0_pay3, Memory.part, Rows.cols, Rows.mul, Rows.dot]
  simp only [normalized]

end Cert.MemoryIdeal.Block

end
-- ==== Proof.MemoryRef.lean ====
/-
  The reference's projection of the memory, read at an index: two groups of columns, the keys and the values.
-/
module

public import proofs.«01_k».proof.Proof.Gen.MemoryRefIdeal.Read
public import proofs.«01_k».proof.Proof.Memory

@[expose] public section

set_option maxRecDepth 16384

noncomputable section

namespace Cert.MemoryRefIdeal.Rows

open Cert.MemoryRefIdeal Cert.MemoryRefIdeal.Gen Cert.MemoryRefIdeal.Read Idealize.ShloMosaic Idealize.ShloMosaic.TcCoe Idealize.SL.Sem

variable (x : FVec Ideal S8x256x1024 .f32) (g : FVec Ideal S1x1024 .f32) (w : FVec Ideal S1024x2048 .bf16)

theorem keys (b : Fin 8) (r : Fin 256) (j : Fin 1024) : val_main_v17 (F := Ideal) x g w (ix3 b r j) = Memory.part 0 (by omega) x g w b r j := by
  rw [← val_main_v17_eq]
  pointwise [Memory.part, Memory.slab, Cert.Rows.cols, Cert.Rows.mul, Cert.Rows.dot, Cert.Rows.norm]

theorem vals (b : Fin 8) (r : Fin 256) (j : Fin 1024) : val_main_v18 (F := Ideal) x g w (ix3 b r j) = Memory.part 1024 (by omega) x g w b r j := by
  rw [← val_main_v18_eq]
  pointwise [Memory.part, Memory.slab, Cert.Rows.cols, Cert.Rows.mul, Cert.Rows.dot, Cert.Rows.norm]

end Cert.MemoryRefIdeal.Rows

end
-- ==== Proof.MemoryClaims.lean ====
/-
  The claims about the memory's projection: its reference's frame, and that it and its reference end with the same keys and values.
-/
module

public import proofs.«01_k».proof.Defs
public import proofs.«01_k».proof.Proof.MemoryBlock
public import proofs.«01_k».proof.Proof.MemoryRef
public import proofs.«01_k».proof.Proof.Gen.Memory.Frame
public import Idealize.ShloMosaic.Lib.Quiescent

@[expose] public section

set_option maxRecDepth 16384

noncomputable section

namespace Cert.MemoryClaims

open Idealize.ShloMosaic Idealize.SL.Sem

/-- The reference leaves its arguments and every counter as they were. -/
theorem frame_ref : Cert.quiescent_MemoryRefIdeal (hMemoryRefIdeal := Cert.MemoryRefIdeal.Gen.facts) := fun m ρ _ =>
  (θ_run _ _ _).mono (fun r h => ⟨fun c => (h c).2.2, sem_eq_zero_of_no_sems (by decide) r.2⟩) (Cert.MemoryRefIdeal.Value.run m ρ)

/-- The call and the reference end with equal results. -/
theorem algebraic : Cert.algebraic_MemoryIdeal_MemoryRefIdeal (hMemoryIdeal := Cert.MemoryIdeal.Gen.facts)
    (hMemoryRefIdeal := Cert.MemoryRefIdeal.Gen.facts) := by
  intro m g m' g' _ hm
  refine ⟨fun c => Cert.MemoryRefIdeal.Read.val_main_v17 (F := Ideal) (m' ((c.tc : Thread Cert.MemoryRefIdeal.nD Cert.MemoryRefIdeal.τ).loc Cert.MemoryRefIdeal.main_arg0))
      (m' ((c.tc : Thread Cert.MemoryRefIdeal.nD Cert.MemoryRefIdeal.τ).loc Cert.MemoryRefIdeal.main_arg1))
      (m' ((c.tc : Thread Cert.MemoryRefIdeal.nD Cert.MemoryRefIdeal.τ).loc Cert.MemoryRefIdeal.main_arg2)),
    fun c => Cert.MemoryRefIdeal.Read.val_main_v18 (F := Ideal) (m' ((c.tc : Thread Cert.MemoryRefIdeal.nD Cert.MemoryRefIdeal.τ).loc Cert.MemoryRefIdeal.main_arg0))
      (m' ((c.tc : Thread Cert.MemoryRefIdeal.nD Cert.MemoryRefIdeal.τ).loc Cert.MemoryRefIdeal.main_arg1))
      (m' ((c.tc : Thread Cert.MemoryRefIdeal.nD Cert.MemoryRefIdeal.τ).loc Cert.MemoryRefIdeal.main_arg2)), ?_, ?_⟩
  · refine (θ_run _ _ _).mono (fun r h c => ⟨(h c).1.trans ?_, (h c).2.1.trans ?_, (h c).2.2⟩) (Cert.MemoryIdeal.Value.run_blocks m g)
    · obtain ⟨h0, h1, h2⟩ := hm c
      beta_reduce
      rw [h0, h1, h2, Cert.MemoryIdeal.Block.final3 m c]
      funext i
      obtain ⟨b, r, j, rfl⟩ : ∃ (b : Fin 8) (r : Fin 256) (j : Fin 1024), i = ix3 b r j := ⟨i 0, i 1, i 2, eq_ix3 i⟩
      exact (Cert.MemoryRefIdeal.Rows.keys _ _ _ b r j).symm
    · obtain ⟨h0, h1, h2⟩ := hm c
      beta_reduce
      rw [h0, h1, h2, Cert.MemoryIdeal.Block.final4 m c]
      funext i
      obtain ⟨b, r, j, rfl⟩ : ∃ (b : Fin 8) (r : Fin 256) (j : Fin 1024), i = ix3 b r j := ⟨i 0, i 1, i 2, eq_ix3 i⟩
      exact (Cert.MemoryRefIdeal.Rows.vals _ _ _ b r j).symm
  · exact (θ_run _ _ _).mono (fun r h c => h c) (Cert.MemoryRefIdeal.Value.run m' g')

end Cert.MemoryClaims

end
-- ==== Proof.lean ====
/-
  The certificate: the frames of the layer's five calls, of their idealizations and of their references, that the
  idealizations rewrite nothing, and that a call and its reference end with equal results.
-/
module

public import proofs.«01_k».proof.Defs
public import proofs.«01_k».proof.Proof.Gen.Attn.Frame
public import proofs.«01_k».proof.Proof.Gen.AttnIdeal.Frame
public import proofs.«01_k».proof.Proof.Gen.Proj.Frame
public import proofs.«01_k».proof.Proof.Gen.Merge.Frame
public import proofs.«01_k».proof.Proof.Gen.MergeIdeal.Frame
public import proofs.«01_k».proof.Proof.Gen.MemoryIdeal.Frame
public import proofs.«01_k».proof.Proof.AttnClaims
public import proofs.«01_k».proof.Proof.FfnClaims
public import proofs.«01_k».proof.Proof.ProjClaims
public import proofs.«01_k».proof.Proof.MergeClaims
public import proofs.«01_k».proof.Proof.MemoryClaims

@[expose] public section

noncomputable section

namespace Cert.Proof

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.Proj.Gen.facts, Cert.ProjIdeal.Gen.facts, Cert.ProjRefIdeal.Gen.facts, Cert.Merge.Gen.facts,
    Cert.MergeIdeal.Gen.facts, Cert.MergeRefIdeal.Gen.facts, Cert.Memory.Gen.facts, Cert.MemoryIdeal.Gen.facts,
    Cert.MemoryRefIdeal.Gen.facts, Cert.Pre_finite_attention.Gen.facts, Cert.Pre_finite_memory.Gen.facts,
    fun m ρ _ => Cert.Attn.Gen.frame m ρ, fun m ρ _ => Cert.AttnIdeal.Gen.frame m ρ,
    fun m ρ _ => Cert.AttnIdeal.Gen.frame m ρ, AttnClaims.frame_ref, fun m ρ _ => AttnClaims.frame_ref m ρ trivial,
    fun m ρ _ => Cert.Ffn.Gen.frame m ρ, fun m ρ _ => Cert.FfnIdeal.Gen.frame m ρ, FfnClaims.frame_ref,
    fun m ρ _ => Cert.Proj.Gen.frame m ρ, fun m ρ _ => Cert.ProjIdeal.Gen.frame m ρ, ProjClaims.frame_ref,
    fun m ρ _ => Cert.Merge.Gen.frame m ρ, fun m ρ _ => Cert.MergeIdeal.Gen.frame m ρ,
    fun m ρ _ => Cert.MergeIdeal.Gen.frame m ρ, MergeClaims.frame_ref, fun m ρ _ => MergeClaims.frame_ref m ρ trivial,
    fun m ρ _ => Cert.Memory.Gen.frame m ρ, fun m ρ _ => Cert.MemoryIdeal.Gen.frame m ρ, MemoryClaims.frame_ref,
    trivial, AttnClaims.algebraic, trivial, FfnClaims.algebraic, trivial, ProjClaims.algebraic, trivial, MergeClaims.algebraic,
    trivial, MemoryClaims.algebraic⟩

end Cert.Proof

end
